-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary [hPre_binary : Cert.Pre_binary.Facts] (m : (ℓ : Loc Cert.KernelIdeal.nD Cert.KernelIdeal.τ Cert.KernelIdeal.sig) → Buf (Elt Ideal) ℓ) : Prop :=
  ∀ c : Dev Cert.KernelIdeal.nD,
    (Cert.Pre_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary [hPre_binary : Cert.Pre_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_binary [hKernelIdeal : Cert.KernelIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_binary [hReferenceIdeal : Cert.ReferenceIdeal.Facts] [hPre_binary : Cert.Pre_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_binary [hKernelIdeal : Cert.KernelIdeal.Facts] [hReferenceIdeal : Cert.ReferenceIdeal.Facts] [hPre_binary : Cert.Pre_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_binary : Cert.Pre_binary.Facts),
    quiescent_Kernel (hKernel := hKernel)
    ∧ quiescent_KernelIdeal (hKernelIdeal := hKernelIdeal)
    ∧ quiescent_KernelIdeal_pre_binary (hKernelIdeal := hKernelIdeal) (hPre_binary := hPre_binary)
    ∧ quiescent_ReferenceIdeal (hReferenceIdeal := hReferenceIdeal)
    ∧ quiescent_ReferenceIdeal_pre_binary (hReferenceIdeal := hReferenceIdeal) (hPre_binary := hPre_binary)
    ∧ preserves_Kernel_KernelIdeal
    ∧ algebraic_KernelIdeal_ReferenceIdeal_pre_binary (hKernelIdeal := hKernelIdeal) (hReferenceIdeal := hReferenceIdeal) (hPre_binary := hPre_binary)
-- ==== Pre_binary.lean ====
abbrev S1024x16 : Shape := ⟨2, ![1024, 16]⟩
abbrev S1024x10000 : Shape := ⟨2, ![1024, 10000]⟩
abbrev S1024x1000 : Shape := ⟨2, ![1024, 1000]⟩
abbrev S64x16 : Shape := ⟨2, ![64, 16]⟩
abbrev S64x10000 : Shape := ⟨2, ![64, 10000]⟩
abbrev S64x1000 : Shape := ⟨2, ![64, 1000]⟩
abbrev S_ : Shape := ⟨0, ![]⟩

class Facts : Prop where
  bcast_S_S1024x16 : S_.BroadcastsInDim S1024x16 (![] : Fin 0 → Fin S1024x16.rank)
  reducesTo_S1024x16_S_d0_1 : S1024x16.ReducesTo [0, 1] S_
  h_S_ : 0 < S_.numel
  bcast_S_S1024x10000 : S_.BroadcastsInDim S1024x10000 (![] : Fin 0 → Fin S1024x10000.rank)
  reducesTo_S1024x10000_S_d0_1 : S1024x10000.ReducesTo [0, 1] S_
  bcast_S_S1024x1000 : S_.BroadcastsInDim S1024x1000 (![] : Fin 0 → Fin S1024x1000.rank)
  reducesTo_S1024x1000_S_d0_1 : S1024x1000.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : IVec S1024x1000 32) (main_arg3 : IVec S1024x10000 32) (main_arg4 : IVec S1024x1000 32) (main_v12 : IVec S_ 1) (main_v14 : IVec S1024x1000 1) (main_v15 : IVec S1024x1000 32) : IVec S_ 1 :=
  let main_v16 : IVec S1024x1000 1 := cmpi .sle main_arg2 main_v15
  let main_v17 : IVec S1024x1000 1 := andi main_v14 main_v16
  let main_c_7 : IVec S_ 1 := constantI S_ 1 1#1
  let main_v18 : IVec S_ 1 := (fun x v => Host.reduce IntOp.andi x v reducesTo_S1024x1000_S_d0_1 h_S_) main_v17 main_c_7
  let main_v19 : IVec S_ 1 := andi main_v12 main_v18
  let main_c_8 : IVec S_ 32 := constantI S_ 32 0#32
  let main_v20 : IVec S1024x10000 32 := broadcastInDim S1024x10000 ![] bcast_S_S1024x10000 main_c_8
  let main_v21 : IVec S1024x10000 1 := cmpi .sge main_arg3 main_v20
  let main_c_9 : IVec S_ 32 := constantI S_ 32 1#32
  let main_v22 : IVec S1024x10000 32 := broadcastInDim S1024x10000 ![] bcast_S_S1024x10000 main_c_9
  let main_v23 : IVec S1024x10000 1 := cmpi .sle main_arg3 main_v22
  let main_v24 : IVec S1024x10000 1 := andi main_v21 main_v23
  let main_c_10 : IVec S_ 1 := constantI S_ 1 1#1
  let main_v25 : IVec S_ 1 := (fun x v => Host.reduce IntOp.andi x v reducesTo_S1024x10000_S_d0_1 h_S_) main_v24 main_c_10
  let main_v26 : IVec S_ 1 := andi main_v19 main_v25
  let main_c_11 : IVec S_ 32 := constantI S_ 32 0#32
  let main_v27 : IVec S1024x1000 32 := broadcastInDim S1024x1000 ![] bcast_S_S1024x1000 main_c_11
  let main_v28 : IVec S1024x1000 1 := cmpi .sge main_arg4 main_v27
  let main_c_12 : IVec S_ 32 := constantI S_ 32 1#32
  let main_v29 : IVec S1024x1000 32 := broadcastInDim S1024x1000 ![] bcast_S_S1024x1000 main_c_12
  let main_v30 : IVec S1024x1000 1 := cmpi .sle main_arg4 main_v29
  let main_v31 : IVec S1024x1000 1 := andi main_v28 main_v30
  let main_c_13 : IVec S_ 1 := constantI S_ 1 1#1
  let main_v32 : IVec S_ 1 := (fun x v => Host.reduce IntOp.andi x v reducesTo_S1024x1000_S_d0_1 h_S_) main_v31 main_c_13
  fn_part2 (F := F) main_v26 main_v32

def fn {F : FTy → Type} [FloatOps F] (main_arg0 : IVec S1024x16 32) (main_arg1 : IVec S1024x10000 32) (main_arg2 : IVec S1024x1000 32) (main_arg3 : IVec S1024x10000 32) (main_arg4 : IVec S1024x1000 32) (main_arg5 : FVec F S64x16 .f32) (main_arg6 : FVec F S64x10000 .f32) (main_arg7 : FVec F S64x1000 .f32) (main_arg8 : FVec F S64x10000 .f32) (main_arg9 : FVec F S64x1000 .f32) : IVec S_ 1 :=
  let main_c : IVec S_ 32 := constantI S_ 32 0#32
  let main_v0 : IVec S1024x16 32 := broadcastInDim S1024x16 ![] bcast_S_S1024x16 main_c
  let main_v1 : IVec S1024x16 1 := cmpi .sge main_arg0 main_v0
  let main_c_0 : IVec S_ 32 := constantI S_ 32 1#32
  let main_v2 : IVec S1024x16 32 := broadcastInDim S1024x16 ![] bcast_S_S1024x16 main_c_0
  let main_v3 : IVec S1024x16 1 := cmpi .sle main_arg0 main_v2
  let main_v4 : IVec S1024x16 1 := andi main_v1 main_v3
  let main_c_1 : IVec S_ 1 := constantI S_ 1 1#1
  let main_v5 : IVec S_ 1 := (fun x v => Host.reduce IntOp.andi x v reducesTo_S1024x16_S_d0_1 h_S_) main_v4 main_c_1
  let main_c_2 : IVec S_ 32 := constantI S_ 32 0#32
  let main_v6 : IVec S1024x10000 32 := broadcastInDim S1024x10000 ![] bcast_S_S1024x10000 main_c_2
  let main_v7 : IVec S1024x10000 1 := cmpi .sge main_arg1 main_v6
  let main_c_3 : IVec S_ 32 := constantI S_ 32 1#32
  let main_v8 : IVec S1024x10000 32 := broadcastInDim S1024x10000 ![] bcast_S_S1024x10000 main_c_3
  let main_v9 : IVec S1024x10000 1 := cmpi .sle main_arg1 main_v8
  let main_v10 : IVec S1024x10000 1 := andi main_v7 main_v9
  let main_c_4 : IVec S_ 1 := constantI S_ 1 1#1
  let main_v11 : IVec S_ 1 := (fun x v => Host.reduce IntOp.andi x v reducesTo_S1024x10000_S_d0_1 h_S_) main_v10 main_c_4
  let main_v12 : IVec S_ 1 := andi main_v5 main_v11
  let main_c_5 : IVec S_ 32 := constantI S_ 32 0#32
  let main_v13 : IVec S1024x1000 32 := broadcastInDim S1024x1000 ![] bcast_S_S1024x1000 main_c_5
  let main_v14 : IVec S1024x1000 1 := cmpi .sge main_arg2 main_v13
  let main_c_6 : IVec S_ 32 := constantI S_ 32 1#32
  let main_v15 : IVec S1024x1000 32 := broadcastInDim S1024x1000 ![] bcast_S_S1024x1000 main_c_6
  fn_part1 (F := F) main_arg2 main_arg3 main_arg4 main_v12 main_v14 main_v15
-- ==== Kernel.lean ====
abbrev S1024x16 : Shape := ⟨2, ![1024, 16]⟩
abbrev S1024x10000 : Shape := ⟨2, ![1024, 10000]⟩
abbrev S1024x1000 : Shape := ⟨2, ![1024, 1000]⟩
abbrev S64x16 : Shape := ⟨2, ![64, 16]⟩
abbrev S64x10000 : Shape := ⟨2, ![64, 10000]⟩
abbrev S64x1000 : Shape := ⟨2, ![64, 1000]⟩
abbrev S16x1024 : Shape := ⟨2, ![16, 1024]⟩
abbrev S10000x1024 : Shape := ⟨2, ![10000, 1024]⟩
abbrev S1000x1024 : Shape := ⟨2, ![1000, 1024]⟩
abbrev S320x1024 : Shape := ⟨2, ![320, 1024]⟩
abbrev S5x1024x1024 : Shape := ⟨3, ![5, 1024, 1024]⟩
abbrev S5x2 : Shape := ⟨2, ![5, 2]⟩
abbrev S3 : Shape := ⟨1, ![3]⟩
abbrev S1 : Shape := ⟨1, ![1]⟩
abbrev S_ : Shape := ⟨0, ![]⟩
abbrev S1x1 : Shape := ⟨2, ![1, 1]⟩
abbrev S1x1024x1024 : Shape := ⟨3, ![1, 1024, 1024]⟩
abbrev S1024x1024 : Shape := ⟨2, ![1024, 1024]⟩
abbrev S64x1024 : Shape := ⟨2, ![64, 1024]⟩
abbrev S1024 : Shape := ⟨1, ![1024]⟩
abbrev S1x1024 : Shape := ⟨2, ![1, 1024]⟩
abbrev S1x784x1024 : Shape := ⟨3, ![1, 784, 1024]⟩
abbrev S784x1024 : Shape := ⟨2, ![784, 1024]⟩
abbrev S64x784 : Shape := ⟨2, ![64, 784]⟩
abbrev S1024x320 : Shape := ⟨2, ![1024, 320]⟩

abbrev nBuf : Space → Nat
  | .hbm => 17
  | .vmem => 11
  | .smem => 0
  | _ => 0

abbrev bufTy : (tb : Table) → Fin (tcTables nBuf tb) → BufTy
  | .hbm, ⟨0, _⟩ => ⟨S1024x16, .i32⟩
  | .hbm, ⟨1, _⟩ => ⟨S1024x10000, .i32⟩
  | .hbm, ⟨2, _⟩ => ⟨S1024x1000, .i32⟩
  | .hbm, ⟨3, _⟩ => ⟨S1024x10000, .i32⟩
  | .hbm, ⟨4, _⟩ => ⟨S1024x1000, .i32⟩
  | .hbm, ⟨5, _⟩ => ⟨S64x16, .f32⟩
  | .hbm, ⟨6, _⟩ => ⟨S64x10000, .f32⟩
  | .hbm, ⟨7, _⟩ => ⟨S64x1000, .f32⟩
  | .hbm, ⟨8, _⟩ => ⟨S64x10000, .f32⟩
  | .hbm, ⟨9, _⟩ => ⟨S64x1000, .f32⟩
  | .hbm, ⟨10, _⟩ => ⟨S16x1024, .i32⟩
  | .hbm, ⟨11, _⟩ => ⟨S10000x1024, .i32⟩
  | .hbm, ⟨12, _⟩ => ⟨S1000x1024, .i32⟩
  | .hbm, ⟨13, _⟩ => ⟨S10000x1024, .i32⟩
  | .hbm, ⟨14, _⟩ => ⟨S1000x1024, .i32⟩
  | .hbm, ⟨15, _⟩ => ⟨S320x1024, .f32⟩
  | .hbm, ⟨16, _⟩ => ⟨S1024x320, .f32⟩
  | .local _ .vmem, ⟨0, _⟩ => ⟨S64x16, .f32⟩
  | .local _ .vmem, ⟨1, _⟩ => ⟨S64x10000, .f32⟩
  | .local _ .vmem, ⟨2, _⟩ => ⟨S64x1000, .f32⟩
  | .local _ .vmem, ⟨3, _⟩ => ⟨S64x10000, .f32⟩
  | .local _ .vmem, ⟨4, _⟩ => ⟨S64x1000, .f32⟩
  | .local _ .vmem, ⟨5, _⟩ => ⟨S320x1024, .f32⟩
  | .local _ .vmem, ⟨6, _⟩ => ⟨S16x1024, .i32⟩
  | .local _ .vmem, ⟨7, _⟩ => ⟨S5x1024x1024, .i32⟩
  | .local _ .vmem, ⟨8, _⟩ => ⟨S1000x1024, .i32⟩
  | .local _ .vmem, ⟨9, _⟩ => ⟨S5x1024x1024, .i32⟩
  | .local _ .vmem, ⟨10, _⟩ => ⟨S1000x1024, .i32⟩
  | _, _ => ⟨S1024x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x16 : Shape := ⟨2, ![1024, 16]⟩
abbrev S1024x10000 : Shape := ⟨2, ![1024, 10000]⟩
abbrev S1024x1000 : Shape := ⟨2, ![1024, 1000]⟩
abbrev S64x16 : Shape := ⟨2, ![64, 16]⟩
abbrev S64x10000 : Shape := ⟨2, ![64, 10000]⟩
abbrev S64x1000 : Shape := ⟨2, ![64, 1000]⟩
abbrev S16x64 : Shape := ⟨2, ![16, 64]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S10000x64 : Shape := ⟨2, ![10000, 64]⟩
abbrev S1000x64 : Shape := ⟨2, ![1000, 64]⟩
abbrev S1024x320 : Shape := ⟨2, ![1024, 320]⟩

abbrev nBuf : Space → Nat
  | .hbm => 101
  | .vmem => 0
  | .smem => 0
  | _ => 0

abbrev bufTy : (tb : Table) → Fin (tcTables nBuf tb) → BufTy
  | .hbm, ⟨0, _⟩ => ⟨S1024x16, .i32⟩
  | .hbm, ⟨1, _⟩ => ⟨S1024x10000, .i32⟩
  | .hbm, ⟨2, _⟩ => ⟨S1024x1000, .i32⟩
  | .hbm, ⟨3, _⟩ => ⟨S1024x10000, .i32⟩
  | .hbm, ⟨4, _⟩ => ⟨S1024x1000, .i32⟩
  | .hbm, ⟨5, _⟩ => ⟨S64x16, .f32⟩
  | .hbm, ⟨6, _⟩ => ⟨S64x10000, .f32⟩
  | .hbm, ⟨7, _⟩ => ⟨S64x1000, .f32⟩
  | .hbm, ⟨8, _⟩ => ⟨S64x10000, .f32⟩
  | .hbm, ⟨9, _⟩ => ⟨S64x1000, .f32⟩
  | .hbm, ⟨10, _⟩ => ⟨S1024x16, .f32⟩
  | .hbm, ⟨11, _⟩ => ⟨S16x64, .f32⟩
  | .hbm, ⟨12, _⟩ => ⟨S1024x64, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .i1⟩
  | .hbm, ⟨18, _⟩ => ⟨S1024x1, .i1⟩
  | .hbm, ⟨19, _⟩ => ⟨S_, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024x1, .f32⟩
  | .hbm, ⟨24, _⟩ => ⟨S1024x64, .f32⟩
  | .hbm, ⟨25, _⟩ => ⟨S1024x64, .f32⟩
  | .hbm, ⟨26, _⟩ => ⟨S1024x64, .i1⟩
  | .hbm, ⟨27, _⟩ => ⟨S1024x64, .f32⟩
  | .hbm, ⟨28, _⟩ => ⟨S1024x10000, .f32⟩
  | .hbm, ⟨29, _⟩ => ⟨S10000x64, .f32⟩
  | .hbm, ⟨30, _⟩ => ⟨S1024x64, .f32⟩
  | .hbm, ⟨31, _⟩ => ⟨S_, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .i1⟩
  | .hbm, ⟨36, _⟩ => ⟨S1024x1, .i1⟩
  | .hbm, ⟨37, _⟩ => ⟨S_, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1024x1, .f32⟩
  | .hbm, ⟨42, _⟩ => ⟨S1024x64, .f32⟩
  | .hbm, ⟨43, _⟩ => ⟨S1024x64, .f32⟩
  | .hbm, ⟨44, _⟩ => ⟨S1024x64, .i1⟩
  | .hbm, ⟨45, _⟩ => ⟨S1024x64, .f32⟩
  | .hbm, ⟨46, _⟩ => ⟨S1024x1000, .f32⟩
  | .hbm, ⟨47, _⟩ => ⟨S1000x64, .f32⟩
  | .hbm, ⟨48, _⟩ => ⟨S1024x64, .f32⟩
  | .hbm, ⟨49, _⟩ => ⟨S_, .f32⟩
  | .hbm, ⟨50, _⟩ => ⟨S1024, .f32⟩
  | .hbm, ⟨51, _⟩ => ⟨S_, .f32⟩
  | .hbm, ⟨52, _⟩ => ⟨S1024, .f32⟩
  | .hbm, ⟨53, _⟩ => ⟨S1024, .i1⟩
  | .hbm, ⟨54, _⟩ => ⟨S1024x1, .i1⟩
  | .hbm, ⟨55, _⟩ => ⟨S_, .f32⟩
  | .hbm, ⟨56, _⟩ => ⟨S_, .f32⟩
  | .hbm, ⟨57, _⟩ => ⟨S1024, .f32⟩
  | .hbm, ⟨58, _⟩ => ⟨S1024, .f32⟩
  | .hbm, ⟨59, _⟩ => ⟨S1024x1, .f32⟩
  | .hbm, ⟨60, _⟩ => ⟨S1024x64, .f32⟩
  | .hbm, ⟨61, _⟩ => ⟨S1024x64, .f32⟩
  | .hbm, ⟨62, _⟩ => ⟨S1024x64, .i1⟩
  | .hbm, ⟨63, _⟩ => ⟨S1024x64, .f32⟩
  | .hbm, ⟨64, _⟩ => ⟨S1024x10000, .f32⟩
  | .hbm, ⟨65, _⟩ => ⟨S10000x64, .f32⟩
  | .hbm, ⟨66, _⟩ => ⟨S1024x64, .f32⟩
  | .hbm, ⟨67, _⟩ => ⟨S_, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .i1⟩
  | .hbm, ⟨72, _⟩ => ⟨S1024x1, .i1⟩
  | .hbm, ⟨73, _⟩ => ⟨S_, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1024x1, .f32⟩
  | .hbm, ⟨78, _⟩ => ⟨S1024x64, .f32⟩
  | .hbm, ⟨79, _⟩ => ⟨S1024x64, .f32⟩
  | .hbm, ⟨80, _⟩ => ⟨S1024x64, .i1⟩
  | .hbm, ⟨81, _⟩ => ⟨S1024x64, .f32⟩
  | .hbm, ⟨82, _⟩ => ⟨S1024x1000, .f32⟩
  | .hbm, ⟨83, _⟩ => ⟨S1000x64, .f32⟩
  | .hbm, ⟨84, _⟩ => ⟨S1024x64, .f32⟩
  | .hbm, ⟨85, _⟩ => ⟨S_, .f32⟩
  | .hbm, ⟨86, _⟩ => ⟨S1024, .f32⟩
  | .hbm, ⟨87, _⟩ => ⟨S_, .f32⟩
  | .hbm, ⟨88, _⟩ => ⟨S1024, .f32⟩
  | .hbm, ⟨89, _⟩ => ⟨S1024, .i1⟩
  | .hbm, ⟨90, _⟩ => ⟨S1024x1, .i1⟩
  | .hbm, ⟨91, _⟩ => ⟨S_, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024x1, .f32⟩
  | .hbm, ⟨96, _⟩ => ⟨S1024x64, .f32⟩
  | .hbm, ⟨97, _⟩ => ⟨S1024x64, .f32⟩
  | .hbm, ⟨98, _⟩ => ⟨S1024x64, .i1⟩
  | .hbm, ⟨99, _⟩ => ⟨S1024x64, .f32⟩
  | .hbm, ⟨100, _⟩ => ⟨S1024x320, .f32⟩
  | _, _ => ⟨S1024x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_cst_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_7 : Ref sig .tc := ⟨.hbm, 55, rfl⟩
abbrev main_call4_v0 : Ref sig .tc := ⟨.hbm, 56, rfl⟩
abbrev main_call4_v1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call5_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_10 : Ref sig .tc := ⟨.hbm, 73, rfl⟩
abbrev main_call6_v0 : Ref sig .tc := ⟨.hbm, 74, rfl⟩
abbrev main_call6_v1 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_call7_v0 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_11 : Ref sig .tc := ⟨.hbm, 85, rfl⟩
abbrev main_v51 : Ref sig .tc := ⟨.hbm, 86, rfl⟩
abbrev main_cst_12 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_13 : Ref sig .tc := ⟨.hbm, 91, rfl⟩
abbrev main_call8_v0 : Ref sig .tc := ⟨.hbm, 92, rfl⟩
abbrev main_call8_v1 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_call9_v0 : Ref sig .tc := ⟨.hbm, 98, rfl⟩
abbrev main_v59 : Ref sig .tc := ⟨.hbm, 99, rfl⟩
abbrev main_v60 : Ref sig .tc := ⟨.hbm, 100, rfl⟩

abbrev nD : Nat := 1
abbrev τ : Topo := Topo.v7x

variable {F : FTy → Type} [FloatOps F]
-- ==== Proof.IdealKit.lean ====
/- The launch set-up of the idealized kernel, whose body moves its operands by copies of its own: the staging, scratch
   and HBM memrefs, the body's semaphores, the invariant that the body takes and hands back conjunct by conjunct. -/
module

public import proofs.«01_k».proof.Proof.Gen.KernelIdeal.Frame
public import proofs.«01_k».proof.Proof.Gen.KernelIdeal.Skeleton
public import Idealize.ShloMosaic.Lib.Pipeline.FrameSuffixR

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin cfg0.N) : Memref sig .tc .vmem S64x16 .f32 := win0_0.stage (cfg0.slots t 0)
abbrev hs0_0 (t : Fin cfg0.N) : (ms0_0 t).IsWhole := hstage0_0 0
abbrev ms0_1 (t : Fin cfg0.N) : Memref sig .tc .vmem S64x10000 .f32 := win0_1.stage (cfg0.slots t 1)
abbrev hs0_1 (t : Fin cfg0.N) : (ms0_1 t).IsWhole := hstage0_1 0
abbrev ms0_2 (t : Fin cfg0.N) : Memref sig .tc .vmem S64x1000 .f32 := win0_2.stage (cfg0.slots t 2)
abbrev hs0_2 (t : Fin cfg0.N) : (ms0_2 t).IsWhole := hstage0_2 0
abbrev ms0_3 (t : Fin cfg0.N) : Memref sig .tc .vmem S64x10000 .f32 := win0_3.stage (cfg0.slots t 3)
abbrev hs0_3 (t : Fin cfg0.N) : (ms0_3 t).IsWhole := hstage0_3 0
abbrev ms0_4 (t : Fin cfg0.N) : Memref sig .tc .vmem S64x1000 .f32 := win0_4.stage (cfg0.slots t 4)
abbrev hs0_4 (t : Fin cfg0.N) : (ms0_4 t).IsWhole := hstage0_4 0
abbrev ms0_5 (t : Fin cfg0.N) : Memref sig .tc .vmem S320x1024 .f32 := win0_5.stage (cfg0.slots t 5)
abbrev hs0_5 (t : Fin cfg0.N) : (ms0_5 t).IsWhole := hstage0_5 0
/-- The scratch operands: whole scoped buffers of the kernel's own, passed beside the windows. -/
abbrev scM0_0 : Memref sig .tc .vmem S16x1024 .i32 := Memref.whole cc0_scratch0
abbrev scM0_1 : Memref sig .tc .vmem S5x1024x1024 .i32 := Memref.whole cc0_scratch1
abbrev scM0_2 : Memref sig .tc .vmem S1000x1024 .i32 := Memref.whole cc0_scratch2
abbrev scM0_3 : Memref sig .tc .vmem S5x1024x1024 .i32 := Memref.whole cc0_scratch3
abbrev scM0_4 : Memref sig .tc .vmem S1000x1024 .i32 := Memref.whole cc0_scratch4
/-- The operands left in HBM that the body copies into scratch itself, whole. -/
abbrev hbM0_0 : Memref sig .tc .hbm S16x1024 .i32 := Memref.whole main_v0
abbrev hbM0_1 : Memref sig .tc .hbm S10000x1024 .i32 := Memref.whole main_v1
abbrev hbM0_2 : Memref sig .tc .hbm S1000x1024 .i32 := Memref.whole main_v2
abbrev hbM0_3 : Memref sig .tc .hbm S10000x1024 .i32 := Memref.whole main_v3
abbrev hbM0_4 : Memref sig .tc .hbm S1000x1024 .i32 := Memref.whole main_v4
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 13 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18] : Fin 13 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12] (by decide) (by decide)]; rfl
/-- The HBM operands the body moves, as references: unscoped, no window's array (`Pipeline.restRefs`). -/
def H0 : Finset (Ref sig .tc) := {main_v0, main_v1, main_v2, main_v3, main_v4}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_v1) ∗ hbPt0 c hbM0_2 (V m c main_v2) ∗ hbPt0 c hbM0_3 (V m c main_v3) ∗ hbPt0 c hbM0_4 (V m c main_v4)) := by
  rw [BI.bigSep_eq_bigSepL_of_eq [main_v0, main_v1, main_v2, main_v3, main_v4] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) ∗ iprop(hbPt0 c hbM0_0 (V m c main_v0) ∗ hbPt0 c hbM0_1 (V m c main_v1) ∗ hbPt0 c hbM0_2 (V m c main_v2) ∗ hbPt0 c hbM0_3 (V m c main_v3) ∗ hbPt0 c hbM0_4 (V m c main_v4))) := by
  rw [Pipeline.ΦD_eq, scopedRest0_eq, ownSems00_eq, hbmPts0_eq]; simp only [scM0_0, scM0_1, scM0_2, scM0_3, scM0_4, owns_whole]; try rfl

end Cert.KernelIdeal.Run

end
-- ==== Proof.Slots.lean ====
/- What the kernel's copies leave in its scratch.

   The two long index arrays are brought in by blocks of consecutive rows, each into one slot of a ring of five. Here a
   load of a slot is read as the block last copied into that slot: a copy into the same slot is seen whole, a copy
   into another slot is not seen. A block copied from an array is that array's rows from the block's first row on. -/
module

public import proofs.«01_k».proof.Proof.IdealKit
public import Idealize.ShloMosaic.Lib.ValueIdx
public import Idealize.ShloMosaic.Lib.ValueLayout
public import Idealize.ShloMosaic.Lib.WholeRead
public import Idealize.ShloMosaic.Lib.VecWindow
public import Idealize.ShloMosaic.Lib.Pipeline.Value

@[expose] public section

noncomputable section

namespace Cert.KernelIdeal.Slots

open Cert.KernelIdeal
open Idealize.ShloMosaic Idealize.ShloMosaic.ValueIdx

variable {Val : EltTy → Type} {κ : Kind} {sp : Space}

/-- The shape of `n` rows lying in one slot of a ring. -/
abbrev slab (n : ℕ) : Shape := ⟨3, ![1, n, 1024]⟩

/-- The shape of a block of `n` rows. -/
abbrev block (n : ℕ) : Shape := ⟨2, ![n, 1024]⟩

/-- `n` rows of a long array from row `o` on, laid out as a slot holds them. -/
def rows (n o : ℕ) (h : o + n ≤ 10000) (X : S10000x1024.Idx → Val .i32) : (slab n).Idx → Val .i32 :=
  fun i => X (ix2 ⟨o + (i 1).val, by have : (i 1).val < n := (i 1).isLt; omega⟩ (i 2))

/-- `n` columns of a wide weight matrix from column `o` on. -/
def cols (n o : ℕ) (h : o + n ≤ 10000) (W : S64x10000.Idx → Val .f32) : (⟨2, ![64, n]⟩ : Shape).Idx → Val .f32 :=
  fun i => W (ix2 (i 0) ⟨o + (i 1).val, by have : (i 1).val < n := (i 1).isLt; omega⟩)

/-- A block of a long array, read through the slice the copy reads it by. -/
theorem read_block {n o : ℕ} (ho : o + n ≤ 10000) (M : Memref sig κ sp S10000x1024 .i32)
    (inb : ∀ a, (![o, 0] : Fin 2 → ℕ) a + (block n).size a ≤ S10000x1024.size a) (hr)
    (f : M.view.ty.Contents Val) (a : Fin n) (b : Fin 1024) :
    (M.slice (Rect.unit (s := S10000x1024) ![o, 0] (block n).size inb) hr).view.read Val f (ix2 a b)
      = M.view.read Val f (ix2 ⟨o + a.val, by have := a.isLt; omega⟩ b) := by
  have e : (M.slice (Rect.unit (s := S10000x1024) ![o, 0] (block n).size inb) hr).view.read Val f (ix2 a b)
      = M.view.read Val f ((Rect.unit (s := S10000x1024) ![o, 0] (block n).size inb).emb (ix2 a b)) := rfl
  rw [e]
  congr 1
  funext x
  apply Fin.ext
  rw [Rect.emb_apply]
  match x with
  | ⟨0, _⟩ => show o + 1 * a.val = o + a.val; omega
  | ⟨1, _⟩ => show 0 + 1 * b.val = b.val; omega

/-- A load of a slot right after a block was copied into it: the block. -/
theorem load_own {n s : ℕ} (M : Memref sig κ sp S5x1024x1024 .i32)
    (inb inb' : ∀ a, (![s, 0, 0] : Fin 3 → ℕ) a + (slab n).size a ≤ S5x1024x1024.size a) (hr)
    (hq : (slab n).Squeezes (block n)) (f : M.view.ty.Contents Val) (v : (block n).Idx → Val .i32) :
    M.view.readAt Val (Rect.unit (s := S5x1024x1024) ![s, 0, 0] (slab n).size inb).toLoadRect
        (((M.slice (Rect.unit (s := S5x1024x1024) ![s, 0, 0] (slab n).size inb') hr).squeeze (block n) hq).view.write Val f v
          Finset.univ)
      = fun i => v (ix2 (i 1) (i 2)) := by
  funext i
  have e : ∀ (g : M.view.ty.Contents Val) (y : (block n).Idx),
      ((M.slice (Rect.unit (s := S5x1024x1024) ![s, 0, 0] (slab n).size inb') hr).squeeze (block n) hq).view.read Val g y
        = M.view.read Val g ((Rect.unit (s := S5x1024x1024) ![s, 0, 0] (slab n).size inb').emb
            (Fin.cons ⟨0, Nat.one_pos⟩ y)) := by
    intro g y
    have e0 : ((M.slice (Rect.unit (s := S5x1024x1024) ![s, 0, 0] (slab n).size inb') hr).squeeze (block n) hq).view.read Val g y
        = M.view.read Val g ((Rect.unit (s := S5x1024x1024) ![s, 0, 0] (slab n).size inb').emb
            (Shape.reshapeEquiv hq.numel_eq y)) := rfl
    rw [e0, Shape.reshapeEquiv_cons_one]
  have h := congrFun (View.read_write_univ
    (v := ((M.slice (Rect.unit (s := S5x1024x1024) ![s, 0, 0] (slab n).size inb') hr).squeeze (block n) hq).view) f v)
    (ix2 (i 1) (i 2))
  rw [e] at h
  refine Eq.trans ?_ h
  show M.view.read Val _ _ = M.view.read Val _ _
  congr 1
  funext x
  apply Fin.ext
  rw [Rect.emb_apply]
  match x with
  | ⟨0, _⟩ =>
    have h0 : (i 0).val < 1 := (i 0).isLt
    show s + 1 * (i 0).val = s + 1 * 0; omega
  | ⟨1, _⟩ => rfl
  | ⟨2, _⟩ => rfl

/-- A load of a slot does not see a block copied into another slot. -/
theorem load_other {n n' s s' : ℕ} (hs : s ≠ s') (M : Memref sig κ sp S5x1024x1024 .i32)
    (inb : ∀ a, (![s, 0, 0] : Fin 3 → ℕ) a + (slab n).size a ≤ S5x1024x1024.size a)
    (inb' : ∀ a, (![s', 0, 0] : Fin 3 → ℕ) a + (slab n').size a ≤ S5x1024x1024.size a) (hr)
    (hq : (slab n').Squeezes (block n')) (f : M.view.ty.Contents Val) (v : (block n').Idx → Val .i32) :
    M.view.readAt Val (Rect.unit (s := S5x1024x1024) ![s, 0, 0] (slab n).size inb).toLoadRect
        (((M.slice (Rect.unit (s := S5x1024x1024) ![s', 0, 0] (slab n').size inb') hr).squeeze (block n') hq).view.write Val f v
          Finset.univ)
      = M.view.readAt Val (Rect.unit (s := S5x1024x1024) ![s, 0, 0] (slab n).size inb).toLoadRect f := by
  funext i
  apply View.read_congr_at
  apply View.write_of_not_mem
  intro hm
  obtain ⟨x, _, hx⟩ := Finset.mem_map.mp hm
  have e : ((M.slice (Rect.unit (s := S5x1024x1024) ![s', 0, 0] (slab n').size inb') hr).squeeze (block n') hq).view.emb x
      = M.view.emb ((Rect.unit (s := S5x1024x1024) ![s', 0, 0] (slab n').size inb').emb
          (Shape.reshapeEquiv hq.numel_eq x)) := rfl
  rw [e, Shape.reshapeEquiv_cons_one] at hx
  have h := M.view.emb.injective hx
  have h0 := congrArg (fun j : S5x1024x1024.Idx => (j 0 : ℕ)) h
  have h4 : s' + 1 * 0 = s + 1 * (i 0).val := h0
  have h5 : (i 0).val < 1 := (i 0).isLt
  omega

/-- A load of `n` columns of a wide weight matrix. -/
theorem load_cols {n o : ℕ} (ho : o + n ≤ 10000) (M : Memref sig κ sp S64x10000 .f32) (hM : M.IsWhole)
    (inb : ∀ a, (![0, o] : Fin 2 → ℕ) a + (⟨2, ![64, n]⟩ : Shape).size a ≤ S64x10000.size a) (W : S64x10000.Idx → Val .f32) :
    M.view.readAt Val (Rect.unit (s := S64x10000) ![0, o] (⟨2, ![64, n]⟩ : Shape).size inb).toLoadRect (hM.unread W)
      = cols n o ho W := by
  funext i
  rw [hM.readAt_unread]
  unfold cols
  congr 1
  funext x
  apply Fin.ext
  match x with
  | ⟨0, _⟩ => show 0 + 1 * (i 0).val = (i 0).val; omega
  | ⟨1, _⟩ => show o + 1 * (i 1).val = o + (i 1).val; omega

/-- A load of a whole staged array. -/
theorem load_full {s : Shape} {e : EltTy} (M : Memref sig κ sp s e) (hM : M.IsWhole) {off : Fin s.rank → ℕ}
    (inb : ∀ a, off a + s.size a ≤ s.size a) (W : s.Idx → Val e) :
    M.view.readAt Val (Rect.unit (s := s) off s.size inb).toLoadRect (hM.unread W) = W := by
  funext i
  rw [hM.readAt_unread]
  congr 1
  funext x
  apply Fin.ext
  show off x + 1 * (i x).val = (i x).val
  have := inb x
  omega

/-- A load of a whole scratch array right after a copy filled it. -/
theorem load_filled [∀ e, Nonempty (Val e)] {s : Shape} {e : EltTy} (M : Memref sig κ sp s e) {off : Fin s.rank → ℕ}
    (inb : ∀ a, off a + s.size a ≤ s.size a) (w : s.Idx → Val e) :
    M.view.readCov [⟨Rect.whole s, w⟩] (Rect.unit (s := s) off s.size inb).toLoadRect = w := by
  funext i
  show M.view.read Val (M.view.writes Val _ [⟨Rect.whole s, w⟩]) _ = w i
  rw [View.read_writes_whole]
  congr 1
  funext x
  apply Fin.ext
  show off x + 1 * (i x).val = (i x).val
  have := inb x
  omega

end Cert.KernelIdeal.Slots

end
-- ==== Proof.KernelValue.lean ====
/- What the kernel's one launch computes, as a function of the arrays it reads.

   The two long products are accumulated block by block over the 10000 rows: nine blocks of 1024 rows and a last block of
   784. Beside each product the column counts of the index array are accumulated in words the same way. The three short
   products take their arrays whole. At the end four of the products are divided by their counts where the counts are
   not zero, and the five are stacked. -/
module

public import proofs.«01_k».proof.Proof.Slots
public import proofs.«01_k».proof.Proof.Gen.KernelIdeal.Skeleton

@[expose] public section

noncomputable section

namespace Cert.KernelIdeal.KernelValue

open Cert.KernelIdeal Cert.KernelIdeal.Gen Cert.KernelIdeal.Slots
open Idealize.ShloMosaic

variable {F : FTy → Type} [FloatOps F]

/-- The product over the first `k + 1` blocks of 1024 rows. -/
def prodUpTo (W : Vec F S64x10000 .f32) (X : Vec F S10000x1024 .i32) : (k : ℕ) → k < 9 → FVec F S64x1024 .f32
  | 0, _ => k0_pay3 (cols (Val := Elt F) 1024 0 (by decide) W) (rows (Val := Elt F) 1024 0 (by decide) X)
  | k + 1, h =>
    k0_pay9 (prodUpTo W X k (by omega)) (cols (Val := Elt F) 1024 (1024 * (k + 1)) (by omega) W)
      (rows (Val := Elt F) 1024 (1024 * (k + 1)) (by omega) X)

/-- The column counts over the first `k + 1` blocks of 1024 rows. -/
def countUpTo (X : Vec F S10000x1024 .i32) : (k : ℕ) → k < 9 → IVec S1x1024 32
  | 0, _ => k0_pay4 (F := F) (rows (Val := Elt F) 1024 0 (by decide) X)
  | k + 1, h =>
    k0_pay10 (F := F) (countUpTo X k (by omega)) (rows (Val := Elt F) 1024 (1024 * (k + 1)) (by omega) X)

/-- The whole product: the nine blocks and the last 784 rows. -/
def prod (W : Vec F S64x10000 .f32) (X : Vec F S10000x1024 .i32) : FVec F S64x1024 .f32 :=
  k0_pay65 (prodUpTo W X 8 (by decide)) (cols (Val := Elt F) 784 9216 (by decide) W)
    (rows (Val := Elt F) 784 9216 (by decide) X)

/-- The whole column counts. -/
def count (X : Vec F S10000x1024 .i32) : IVec S1x1024 32 :=
  k0_pay66 (F := F) (countUpTo X 8 (by decide)) (rows (Val := Elt F) 784 9216 (by decide) X)

/-- The launch's output, from the five staged weight matrices and the five index arrays, these transposed. -/
def out (x0 : Vec F S64x16 .f32) (x1 : Vec F S64x10000 .f32) (x2 : Vec F S64x1000 .f32) (x3 : Vec F S64x10000 .f32)
    (x4 : Vec F S64x1000 .f32) (X0 : Vec F S16x1024 .i32) (X1 : Vec F S10000x1024 .i32) (X2 : Vec F S1000x1024 .i32)
    (X3 : Vec F S10000x1024 .i32) (X4 : Vec F S1000x1024 .i32) : FVec F S320x1024 .f32 :=
  k0_pay1 (k0_pay22 x4 X4) (k0_pay23 (F := F) X4) (prod x1 X1) (prod x3 X3) (count X3)
    (k0_pay70 (k0_pay24 x0 X0) (k0_pay25 (F := F) X0) (count X1)) (k0_pay71 (k0_pay20 x2 X2) (k0_pay21 (F := F) X2))
    (k0_pay72 (F := F) (countUpTo X3 8 (by decide)) (rows (Val := Elt F) 784 9216 (by decide) X3)) (k0_pay73)

end Cert.KernelIdeal.KernelValue

end
-- ==== Proof.IdealRun.lean ====
/- The run of the idealized kernel's body.

   From the five weight matrices staged and the five index arrays in the memory outside, the body ends with the output
   buffer at `KernelValue.out` of them, everything it reads as it was, every semaphore it counts on at zero. -/
module

public import proofs.«01_k».proof.Proof.IdealKit
public import proofs.«01_k».proof.Proof.KernelValue

@[expose] public section

set_option maxRecDepth 16384

noncomputable section

namespace Cert.KernelIdeal.Run

open Cert.KernelIdeal.Gen Cert.KernelIdeal.Slots Cert.KernelIdeal.KernelValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 3200000 in set_option sl_exec.dmaWindow true in set_option sl_exec.dmaWindowSet true in
/-- The body's triple. The staged weight matrices are at `x0` to `x4`, the index arrays at `fh0` to `fh4`, the output's
    buffer and the scratch at anything; the body runs to the continuation holding the inputs as they were, the output at
    `out` of them, and the scratch at some contents. After the run each load is read as the rows or columns it loads, each
    partial sum as the sum over the blocks so far. -/
theorem kernelRun0_A (c : Dev nD) (arg5 : Memref sig .tc .vmem S64x16 .f32) (harg5 : arg5.IsWhole) (arg6 : Memref sig .tc .vmem S64x10000 .f32) (harg6 : arg6.IsWhole) (arg7 : Memref sig .tc .vmem S64x1000 .f32) (harg7 : arg7.IsWhole) (arg8 : Memref sig .tc .vmem S64x10000 .f32) (harg8 : arg8.IsWhole) (arg9 : Memref sig .tc .vmem S64x1000 .f32) (harg9 : arg9.IsWhole) (arg10 : Memref sig .tc .vmem S320x1024 .f32) (harg10 : arg10.IsWhole) (arg11 : Memref sig .tc .vmem S16x1024 .i32) (harg11 : arg11.IsWhole) (arg12 : Memref sig .tc .vmem S5x1024x1024 .i32) (harg12 : arg12.IsWhole) (arg13 : Memref sig .tc .vmem S1000x1024 .i32) (harg13 : arg13.IsWhole) (arg14 : Memref sig .tc .vmem S5x1024x1024 .i32) (harg14 : arg14.IsWhole) (arg15 : Memref sig .tc .vmem S1000x1024 .i32) (harg15 : arg15.IsWhole)
    (x0 : Vec F S64x16 .f32) (x1 : Vec F S64x10000 .f32) (x2 : Vec F S64x1000 .f32) (x3 : Vec F S64x10000 .f32) (x4 : Vec F S64x1000 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) :
      ∀ (W : Waits sig Unit) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ hbPt0 c hbM0_3 fh3 ∗ hbPt0 c hbM0_4 fh4 ∗ owes (c : Thread nD τ) 0 W
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare (out x0 x1 x2 x3 x4 ((Memref.whole main_v0).view.read (Elt F) fh0) ((Memref.whole main_v1).view.read (Elt F) fh1) ((Memref.whole main_v2).view.read (Elt F) fh2) ((Memref.whole main_v3).view.read (Elt F) fh3) ((Memref.whole main_v4).view.read (Elt F) fh4)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ hbPt0 c hbM0_0 fh0 ∗ hbPt0 c hbM0_1 fh1 ∗ hbPt0 c hbM0_2 fh2 ∗ hbPt0 c hbM0_3 fh3 ∗ hbPt0 c hbM0_4 fh4 ∗ (∃ W', owes (c : Thread nD τ) 0 W')) -∗ K ⟨⟩))
          ⊢ wp frame (wpE (defs₀ (F := F)) Variants.none c none) Set.univ (cc0__body (Memref.whole main_v0) (Memref.isWhole_whole _) (Memref.whole main_v1) (Memref.isWhole_whole _) (Memref.whole main_v2) (Memref.isWhole_whole _) (Memref.whole main_v3) (Memref.isWhole_whole _) (Memref.whole main_v4) (Memref.isWhole_whole _) arg5 harg5 arg6 harg6 arg7 harg7 arg8 harg8 arg9 harg9 arg10 harg10 arg11 harg11 arg12 harg12 arg13 harg13 arg14 harg14 arg15 harg15 cc0_scratch5 cc0_scratch6) K := by
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hq2, Hq3, Hq4, Hq5, Hq6, Hq7, Hq8, Hq9, Hq10, Hq11, Hq12, Hh0, Hh1, Hh2, Hh3, Hh4, HW, Hk⟩
    obtain rfl := harg5.eq_unread hf0; obtain rfl := harg6.eq_unread hf1; obtain rfl := harg7.eq_unread hf2; obtain rfl := harg8.eq_unread hf3; obtain rfl := harg9.eq_unread hf4
    sl_exec
    have ev62 : kernelRun0_A.sl.v62 c arg12 fh1 fs1 = rows 1024 0 (by decide) ((Memref.whole main_v1).view.read (Elt F) fh1) :=
      (load_other (n := 1024) (n' := 1024) (s := 0) (s' := 4) (by decide) arg12 _ _ _ _ _ _).trans <|
      (load_other (n := 1024) (n' := 1024) (s := 0) (s' := 3) (by decide) arg12 _ _ _ _ _ _).trans <|
      (load_other (n := 1024) (n' := 1024) (s := 0) (s' := 2) (by decide) arg12 _ _ _ _ _ _).trans <|
      (load_other (n := 1024) (n' := 1024) (s := 0) (s' := 1) (by decide) arg12 _ _ _ _ _ _).trans <|
      (load_own (n := 1024) (s := 0) arg12 _ _ _ _ _ _).trans <|
      funext fun i => read_block (n := 1024) (o := 0) (by decide) (Memref.whole main_v1) _ _ fh1 (i 1) (i 2)
    have ev98 : kernelRun0_A.sl.v98 c arg12 fh1 fs1 = rows 1024 1024 (by decide) ((Memref.whole main_v1).view.read (Elt F) fh1) :=
      (load_other (n := 1024) (n' := 1024) (s := 1) (s' := 0) (by decide) arg12 _ _ _ _ _ _).trans <|
      (load_other (n := 1024) (n' := 1024) (s := 1) (s' := 4) (by decide) arg12 _ _ _ _ _ _).trans <|
      (load_other (n := 1024) (n' := 1024) (s := 1) (s' := 3) (by decide) arg12 _ _ _ _ _ _).trans <|
      (load_other (n := 1024) (n' := 1024) (s := 1) (s' := 2) (by decide) arg12 _ _ _ _ _ _).trans <|
      (load_own (n := 1024) (s := 1) arg12 _ _ _ _ _ _).trans <|
      funext fun i => read_block (n := 1024) (o := 1024) (by decide) (Memref.whole main_v1) _ _ fh1 (i 1) (i 2)
    have ev138 : kernelRun0_A.sl.v138 c arg12 fh1 fs1 = rows 1024 2048 (by decide) ((Memref.whole main_v1).view.read (Elt F) fh1) :=
      (load_other (n := 1024) (n' := 1024) (s := 2) (s' := 1) (by decide) arg12 _ _ _ _ _ _).trans <|
      (load_other (n := 1024) (n' := 1024) (s := 2) (s' := 0) (by decide) arg12 _ _ _ _ _ _).trans <|
      (load_other (n := 1024) (n' := 1024) (s := 2) (s' := 4) (by decide) arg12 _ _ _ _ _ _).trans <|
      (load_other (n := 1024) (n' := 1024) (s := 2) (s' := 3) (by decide) arg12 _ _ _ _ _ _).trans <|
      (load_own (n := 1024) (s := 2) arg12 _ _ _ _ _ _).trans <|
      funext fun i => read_block (n := 1024) (o := 2048) (by decide) (Memref.whole main_v1) _ _ fh1 (i 1) (i 2)
    have ev205 : kernelRun0_A.sl.v205 c arg12 fh1 fs1 = rows 1024 3072 (by decide) ((Memref.whole main_v1).view.read (Elt F) fh1) :=
      (load_other (n := 1024) (n' := 1024) (s := 3) (s' := 2) (by decide) arg12 _ _ _ _ _ _).trans <|
      (load_other (n := 1024) (n' := 1024) (s := 3) (s' := 1) (by decide) arg12 _ _ _ _ _ _).trans <|
      (load_other (n := 1024) (n' := 1024) (s := 3) (s' := 0) (by decide) arg12 _ _ _ _ _ _).trans <|
      (load_other (n := 1024) (n' := 1024) (s := 3) (s' := 4) (by decide) arg12 _ _ _ _ _ _).trans <|
      (load_own (n := 1024) (s := 3) arg12 _ _ _ _ _ _).trans <|
      funext fun i => read_block (n := 1024) (o := 3072) (by decide) (Memref.whole main_v1) _ _ fh1 (i 1) (i 2)
    have ev245 : kernelRun0_A.sl.v245 c arg12 fh1 fs1 = rows 1024 4096 (by decide) ((Memref.whole main_v1).view.read (Elt F) fh1) :=
      (load_other (n := 1024) (n' := 1024) (s := 4) (s' := 3) (by decide) arg12 _ _ _ _ _ _).trans <|
      (load_other (n := 1024) (n' := 1024) (s := 4) (s' := 2) (by decide) arg12 _ _ _ _ _ _).trans <|
      (load_other (n := 1024) (n' := 1024) (s := 4) (s' := 1) (by decide) arg12 _ _ _ _ _ _).trans <|
      (load_other (n := 1024) (n' := 1024) (s := 4) (s' := 0) (by decide) arg12 _ _ _ _ _ _).trans <|
      (load_own (n := 1024) (s := 4) arg12 _ _ _ _ _ _).trans <|
      funext fun i => read_block (n := 1024) (o := 4096) (by decide) (Memref.whole main_v1) _ _ fh1 (i 1) (i 2)
    have ev285 : kernelRun0_A.sl.v285 c arg12 fh1 fs1 = rows 1024 5120 (by decide) ((Memref.whole main_v1).view.read (Elt F) fh1) :=
      (load_other (n := 1024) (n' := 784) (s := 0) (s' := 4) (by decide) arg12 _ _ _ _ _ _).trans <|
      (load_other (n := 1024) (n' := 1024) (s := 0) (s' := 3) (by decide) arg12 _ _ _ _ _ _).trans <|
      (load_other (n := 1024) (n' := 1024) (s := 0) (s' := 2) (by decide) arg12 _ _ _ _ _ _).trans <|
      (load_other (n := 1024) (n' := 1024) (s := 0) (s' := 1) (by decide) arg12 _ _ _ _ _ _).trans <|
      (load_own (n := 1024) (s := 0) arg12 _ _ _ _ _ _).trans <|
      funext fun i => read_block (n := 1024) (o := 5120) (by decide) (Memref.whole main_v1) _ _ fh1 (i 1) (i 2)
    have ev315 : kernelRun0_A.sl.v315 c arg12 fh1 fs1 = rows 1024 6144 (by decide) ((Memref.whole main_v1).view.read (Elt F) fh1) :=
      (load_other (n := 1024) (n' := 784) (s := 1) (s' := 4) (by decide) arg12 _ _ _ _ _ _).trans <|
      (load_other (n := 1024) (n' := 1024) (s := 1) (s' := 3) (by decide) arg12 _ _ _ _ _ _).trans <|
      (load_other (n := 1024) (n' := 1024) (s := 1) (s' := 2) (by decide) arg12 _ _ _ _ _ _).trans <|
      (load_own (n := 1024) (s := 1) arg12 _ _ _ _ _ _).trans <|
      funext fun i => read_block (n := 1024) (o := 6144) (by decide) (Memref.whole main_v1) _ _ fh1 (i 1) (i 2)
    have ev345 : kernelRun0_A.sl.v345 c arg12 fh1 fs1 = rows 1024 7168 (by decide) ((Memref.whole main_v1).view.read (Elt F) fh1) :=
      (load_other (n := 1024) (n' := 784) (s := 2) (s' := 4) (by decide) arg12 _ _ _ _ _ _).trans <|
      (load_other (n := 1024) (n' := 1024) (s := 2) (s' := 3) (by decide) arg12 _ _ _ _ _ _).trans <|
      (load_own (n := 1024) (s := 2) arg12 _ _ _ _ _ _).trans <|
      funext fun i => read_block (n := 1024) (o := 7168) (by decide) (Memref.whole main_v1) _ _ fh1 (i 1) (i 2)
    have ev375 : kernelRun0_A.sl.v375 c arg12 fh1 fs1 = rows 1024 8192 (by decide) ((Memref.whole main_v1).view.read (Elt F) fh1) :=
      (load_other (n := 1024) (n' := 784) (s := 3) (s' := 4) (by decide) arg12 _ _ _ _ _ _).trans <|
      (load_own (n := 1024) (s := 3) arg12 _ _ _ _ _ _).trans <|
      funext fun i => read_block (n := 1024) (o := 8192) (by decide) (Memref.whole main_v1) _ _ fh1 (i 1) (i 2)
    have ev405 : kernelRun0_A.sl.v405 c arg12 fh1 fs1 = rows 784 9216 (by decide) ((Memref.whole main_v1).view.read (Elt F) fh1) :=
      (load_own (n := 784) (s := 4) arg12 _ _ _ _ _ _).trans <|
      funext fun i => read_block (n := 784) (o := 9216) (by decide) (Memref.whole main_v1) _ _ fh1 (i 1) (i 2)
    have ev80 : kernelRun0_A.sl.v80 c arg14 fh3 fs3 = rows 1024 0 (by decide) ((Memref.whole main_v3).view.read (Elt F) fh3) :=
      (load_other (n := 1024) (n' := 1024) (s := 0) (s' := 4) (by decide) arg14 _ _ _ _ _ _).trans <|
      (load_other (n := 1024) (n' := 1024) (s := 0) (s' := 3) (by decide) arg14 _ _ _ _ _ _).trans <|
      (load_other (n := 1024) (n' := 1024) (s := 0) (s' := 2) (by decide) arg14 _ _ _ _ _ _).trans <|
      (load_other (n := 1024) (n' := 1024) (s := 0) (s' := 1) (by decide) arg14 _ _ _ _ _ _).trans <|
      (load_own (n := 1024) (s := 0) arg14 _ _ _ _ _ _).trans <|
      funext fun i => read_block (n := 1024) (o := 0) (by decide) (Memref.whole main_v3) _ _ fh3 (i 1) (i 2)
    have ev118 : kernelRun0_A.sl.v118 c arg14 fh3 fs3 = rows 1024 1024 (by decide) ((Memref.whole main_v3).view.read (Elt F) fh3) :=
      (load_other (n := 1024) (n' := 1024) (s := 1) (s' := 0) (by decide) arg14 _ _ _ _ _ _).trans <|
      (load_other (n := 1024) (n' := 1024) (s := 1) (s' := 4) (by decide) arg14 _ _ _ _ _ _).trans <|
      (load_other (n := 1024) (n' := 1024) (s := 1) (s' := 3) (by decide) arg14 _ _ _ _ _ _).trans <|
      (load_other (n := 1024) (n' := 1024) (s := 1) (s' := 2) (by decide) arg14 _ _ _ _ _ _).trans <|
      (load_own (n := 1024) (s := 1) arg14 _ _ _ _ _ _).trans <|
      funext fun i => read_block (n := 1024) (o := 1024) (by decide) (Memref.whole main_v3) _ _ fh3 (i 1) (i 2)
    have ev158 : kernelRun0_A.sl.v158 c arg14 fh3 fs3 = rows 1024 2048 (by decide) ((Memref.whole main_v3).view.read (Elt F) fh3) :=
      (load_other (n := 1024) (n' := 1024) (s := 2) (s' := 1) (by decide) arg14 _ _ _ _ _ _).trans <|
      (load_other (n := 1024) (n' := 1024) (s := 2) (s' := 0) (by decide) arg14 _ _ _ _ _ _).trans <|
      (load_other (n := 1024) (n' := 1024) (s := 2) (s' := 4) (by decide) arg14 _ _ _ _ _ _).trans <|
      (load_other (n := 1024) (n' := 1024) (s := 2) (s' := 3) (by decide) arg14 _ _ _ _ _ _).trans <|
      (load_own (n := 1024) (s := 2) arg14 _ _ _ _ _ _).trans <|
      funext fun i => read_block (n := 1024) (o := 2048) (by decide) (Memref.whole main_v3) _ _ fh3 (i 1) (i 2)
    have ev225 : kernelRun0_A.sl.v225 c arg14 fh3 fs3 = rows 1024 3072 (by decide) ((Memref.whole main_v3).view.read (Elt F) fh3) :=
      (load_other (n := 1024) (n' := 1024) (s := 3) (s' := 2) (by decide) arg14 _ _ _ _ _ _).trans <|
      (load_other (n := 1024) (n' := 1024) (s := 3) (s' := 1) (by decide) arg14 _ _ _ _ _ _).trans <|
      (load_other (n := 1024) (n' := 1024) (s := 3) (s' := 0) (by decide) arg14 _ _ _ _ _ _).trans <|
      (load_other (n := 1024) (n' := 1024) (s := 3) (s' := 4) (by decide) arg14 _ _ _ _ _ _).trans <|
      (load_own (n := 1024) (s := 3) arg14 _ _ _ _ _ _).trans <|
      funext fun i => read_block (n := 1024) (o := 3072) (by decide) (Memref.whole main_v3) _ _ fh3 (i 1) (i 2)
    have ev265 : kernelRun0_A.sl.v265 c arg14 fh3 fs3 = rows 1024 4096 (by decide) ((Memref.whole main_v3).view.read (Elt F) fh3) :=
      (load_other (n := 1024) (n' := 1024) (s := 4) (s' := 3) (by decide) arg14 _ _ _ _ _ _).trans <|
      (load_other (n := 1024) (n' := 1024) (s := 4) (s' := 2) (by decide) arg14 _ _ _ _ _ _).trans <|
      (load_other (n := 1024) (n' := 1024) (s := 4) (s' := 1) (by decide) arg14 _ _ _ _ _ _).trans <|
      (load_other (n := 1024) (n' := 1024) (s := 4) (s' := 0) (by decide) arg14 _ _ _ _ _ _).trans <|
      (load_own (n := 1024) (s := 4) arg14 _ _ _ _ _ _).trans <|
      funext fun i => read_block (n := 1024) (o := 4096) (by decide) (Memref.whole main_v3) _ _ fh3 (i 1) (i 2)
    have ev300 : kernelRun0_A.sl.v300 c arg14 fh3 fs3 = rows 1024 5120 (by decide) ((Memref.whole main_v3).view.read (Elt F) fh3) :=
      (load_other (n := 1024) (n' := 784) (s := 0) (s' := 4) (by decide) arg14 _ _ _ _ _ _).trans <|
      (load_other (n := 1024) (n' := 1024) (s := 0) (s' := 3) (by decide) arg14 _ _ _ _ _ _).trans <|
      (load_other (n := 1024) (n' := 1024) (s := 0) (s' := 2) (by decide) arg14 _ _ _ _ _ _).trans <|
      (load_other (n := 1024) (n' := 1024) (s := 0) (s' := 1) (by decide) arg14 _ _ _ _ _ _).trans <|
      (load_own (n := 1024) (s := 0) arg14 _ _ _ _ _ _).trans <|
      funext fun i => read_block (n := 1024) (o := 5120) (by decide) (Memref.whole main_v3) _ _ fh3 (i 1) (i 2)
    have ev330 : kernelRun0_A.sl.v330 c arg14 fh3 fs3 = rows 1024 6144 (by decide) ((Memref.whole main_v3).view.read (Elt F) fh3) :=
      (load_other (n := 1024) (n' := 784) (s := 1) (s' := 4) (by decide) arg14 _ _ _ _ _ _).trans <|
      (load_other (n := 1024) (n' := 1024) (s := 1) (s' := 3) (by decide) arg14 _ _ _ _ _ _).trans <|
      (load_other (n := 1024) (n' := 1024) (s := 1) (s' := 2) (by decide) arg14 _ _ _ _ _ _).trans <|
      (load_own (n := 1024) (s := 1) arg14 _ _ _ _ _ _).trans <|
      funext fun i => read_block (n := 1024) (o := 6144) (by decide) (Memref.whole main_v3) _ _ fh3 (i 1) (i 2)
    have ev360 : kernelRun0_A.sl.v360 c arg14 fh3 fs3 = rows 1024 7168 (by decide) ((Memref.whole main_v3).view.read (Elt F) fh3) :=
      (load_other (n := 1024) (n' := 784) (s := 2) (s' := 4) (by decide) arg14 _ _ _ _ _ _).trans <|
      (load_other (n := 1024) (n' := 1024) (s := 2) (s' := 3) (by decide) arg14 _ _ _ _ _ _).trans <|
      (load_own (n := 1024) (s := 2) arg14 _ _ _ _ _ _).trans <|
      funext fun i => read_block (n := 1024) (o := 7168) (by decide) (Memref.whole main_v3) _ _ fh3 (i 1) (i 2)
    have ev390 : kernelRun0_A.sl.v390 c arg14 fh3 fs3 = rows 1024 8192 (by decide) ((Memref.whole main_v3).view.read (Elt F) fh3) :=
      (load_other (n := 1024) (n' := 784) (s := 3) (s' := 4) (by decide) arg14 _ _ _ _ _ _).trans <|
      (load_own (n := 1024) (s := 3) arg14 _ _ _ _ _ _).trans <|
      funext fun i => read_block (n := 1024) (o := 8192) (by decide) (Memref.whole main_v3) _ _ fh3 (i 1) (i 2)
    have ev420 : kernelRun0_A.sl.v420 c arg14 fh3 fs3 = rows 784 9216 (by decide) ((Memref.whole main_v3).view.read (Elt F) fh3) :=
      (load_own (n := 784) (s := 4) arg14 _ _ _ _ _ _).trans <|
      funext fun i => read_block (n := 784) (o := 9216) (by decide) (Memref.whole main_v3) _ _ fh3 (i 1) (i 2)
    have ev175 : kernelRun0_A.sl.v175 c arg13 fh2 = (Memref.whole main_v2).view.read (Elt F) fh2 := load_filled arg13 _ _
    have ev184 : kernelRun0_A.sl.v184 c arg15 fh4 = (Memref.whole main_v4).view.read (Elt F) fh4 := load_filled arg15 _ _
    have ev193 : kernelRun0_A.sl.v193 c arg11 fh0 = (Memref.whole main_v0).view.read (Elt F) fh0 := load_filled arg11 _ _
    have dr : kernelRun0_A.sl.r c arg6 harg6 arg12 x1 fh1 fs1 = prodUpTo x1 ((Memref.whole main_v1).view.read (Elt F) fh1) 0 (by decide) := congrArg₂ k0_pay3 (load_cols (n := 1024) (o := 0) (by decide) arg6 harg6 _ x1) ev62
    have dr_1 : kernelRun0_A.sl.r_1 c arg12 fh1 fs1 = countUpTo (F := F) ((Memref.whole main_v1).view.read (Elt F) fh1) 0 (by decide) := congrArg (k0_pay4 (F := F)) ev62
    have dr_5 : kernelRun0_A.sl.r_5 c arg6 harg6 arg12 x1 fh1 fs1 = prodUpTo x1 ((Memref.whole main_v1).view.read (Elt F) fh1) 1 (by decide) :=
      congr (congrArg₂ k0_pay9 dr (load_cols (n := 1024) (o := 1024) (by decide) arg6 harg6 _ x1)) ev98
    have dr_6 : kernelRun0_A.sl.r_6 c arg12 fh1 fs1 = countUpTo (F := F) ((Memref.whole main_v1).view.read (Elt F) fh1) 1 (by decide) := congrArg₂ (k0_pay10 (F := F)) dr_1 ev98
    have dr_9 : kernelRun0_A.sl.r_9 c arg6 harg6 arg12 x1 fh1 fs1 = prodUpTo x1 ((Memref.whole main_v1).view.read (Elt F) fh1) 2 (by decide) :=
      congr (congrArg₂ k0_pay9 dr_5 (load_cols (n := 1024) (o := 2048) (by decide) arg6 harg6 _ x1)) ev138
    have dr_10 : kernelRun0_A.sl.r_10 c arg12 fh1 fs1 = countUpTo (F := F) ((Memref.whole main_v1).view.read (Elt F) fh1) 2 (by decide) := congrArg₂ (k0_pay10 (F := F)) dr_6 ev138
    have dr_20 : kernelRun0_A.sl.r_20 c arg6 harg6 arg12 x1 fh1 fs1 = prodUpTo x1 ((Memref.whole main_v1).view.read (Elt F) fh1) 3 (by decide) :=
      congr (congrArg₂ k0_pay9 dr_9 (load_cols (n := 1024) (o := 3072) (by decide) arg6 harg6 _ x1)) ev205
    have dr_21 : kernelRun0_A.sl.r_21 c arg12 fh1 fs1 = countUpTo (F := F) ((Memref.whole main_v1).view.read (Elt F) fh1) 3 (by decide) := congrArg₂ (k0_pay10 (F := F)) dr_10 ev205
    have dr_24 : kernelRun0_A.sl.r_24 c arg6 harg6 arg12 x1 fh1 fs1 = prodUpTo x1 ((Memref.whole main_v1).view.read (Elt F) fh1) 4 (by decide) :=
      congr (congrArg₂ k0_pay9 dr_20 (load_cols (n := 1024) (o := 4096) (by decide) arg6 harg6 _ x1)) ev245
    have dr_25 : kernelRun0_A.sl.r_25 c arg12 fh1 fs1 = countUpTo (F := F) ((Memref.whole main_v1).view.read (Elt F) fh1) 4 (by decide) := congrArg₂ (k0_pay10 (F := F)) dr_21 ev245
    have dr_31 : kernelRun0_A.sl.r_31 c arg6 harg6 arg12 x1 fh1 fs1 = prodUpTo x1 ((Memref.whole main_v1).view.read (Elt F) fh1) 5 (by decide) :=
      congr (congrArg₂ k0_pay9 dr_24 (load_cols (n := 1024) (o := 5120) (by decide) arg6 harg6 _ x1)) ev285
    have dr_32 : kernelRun0_A.sl.r_32 c arg12 fh1 fs1 = countUpTo (F := F) ((Memref.whole main_v1).view.read (Elt F) fh1) 5 (by decide) := congrArg₂ (k0_pay10 (F := F)) dr_25 ev285
    have dr_35 : kernelRun0_A.sl.r_35 c arg6 harg6 arg12 x1 fh1 fs1 = prodUpTo x1 ((Memref.whole main_v1).view.read (Elt F) fh1) 6 (by decide) :=
      congr (congrArg₂ k0_pay9 dr_31 (load_cols (n := 1024) (o := 6144) (by decide) arg6 harg6 _ x1)) ev315
    have dr_36 : kernelRun0_A.sl.r_36 c arg12 fh1 fs1 = countUpTo (F := F) ((Memref.whole main_v1).view.read (Elt F) fh1) 6 (by decide) := congrArg₂ (k0_pay10 (F := F)) dr_32 ev315
    have dr_39 : kernelRun0_A.sl.r_39 c arg6 harg6 arg12 x1 fh1 fs1 = prodUpTo x1 ((Memref.whole main_v1).view.read (Elt F) fh1) 7 (by decide) :=
      congr (congrArg₂ k0_pay9 dr_35 (load_cols (n := 1024) (o := 7168) (by decide) arg6 harg6 _ x1)) ev345
    have dr_40 : kernelRun0_A.sl.r_40 c arg12 fh1 fs1 = countUpTo (F := F) ((Memref.whole main_v1).view.read (Elt F) fh1) 7 (by decide) := congrArg₂ (k0_pay10 (F := F)) dr_36 ev345
    have dr_43 : kernelRun0_A.sl.r_43 c arg6 harg6 arg12 x1 fh1 fs1 = prodUpTo x1 ((Memref.whole main_v1).view.read (Elt F) fh1) 8 (by decide) :=
      congr (congrArg₂ k0_pay9 dr_39 (load_cols (n := 1024) (o := 8192) (by decide) arg6 harg6 _ x1)) ev375
    have dr_44 : kernelRun0_A.sl.r_44 c arg12 fh1 fs1 = countUpTo (F := F) ((Memref.whole main_v1).view.read (Elt F) fh1) 8 (by decide) := congrArg₂ (k0_pay10 (F := F)) dr_40 ev375
    have dr_47 : kernelRun0_A.sl.r_47 c arg6 harg6 arg12 x1 fh1 fs1 = prod x1 ((Memref.whole main_v1).view.read (Elt F) fh1) :=
      congr (congrArg₂ k0_pay65 dr_43 (load_cols (n := 784) (o := 9216) (by decide) arg6 harg6 _ x1)) ev405
    have dr_48 : kernelRun0_A.sl.r_48 c arg12 fh1 fs1 = count (F := F) ((Memref.whole main_v1).view.read (Elt F) fh1) := congrArg₂ (k0_pay66 (F := F)) dr_44 ev405
    have dr_2 : kernelRun0_A.sl.r_2 c arg8 harg8 arg14 x3 fh3 fs3 = prodUpTo x3 ((Memref.whole main_v3).view.read (Elt F) fh3) 0 (by decide) := congrArg₂ k0_pay3 (load_cols (n := 1024) (o := 0) (by decide) arg8 harg8 _ x3) ev80
    have dr_3 : kernelRun0_A.sl.r_3 c arg14 fh3 fs3 = countUpTo (F := F) ((Memref.whole main_v3).view.read (Elt F) fh3) 0 (by decide) := congrArg (k0_pay4 (F := F)) ev80
    have dr_7 : kernelRun0_A.sl.r_7 c arg8 harg8 arg14 x3 fh3 fs3 = prodUpTo x3 ((Memref.whole main_v3).view.read (Elt F) fh3) 1 (by decide) :=
      congr (congrArg₂ k0_pay9 dr_2 (load_cols (n := 1024) (o := 1024) (by decide) arg8 harg8 _ x3)) ev118
    have dr_8 : kernelRun0_A.sl.r_8 c arg14 fh3 fs3 = countUpTo (F := F) ((Memref.whole main_v3).view.read (Elt F) fh3) 1 (by decide) := congrArg₂ (k0_pay10 (F := F)) dr_3 ev118
    have dr_11 : kernelRun0_A.sl.r_11 c arg8 harg8 arg14 x3 fh3 fs3 = prodUpTo x3 ((Memref.whole main_v3).view.read (Elt F) fh3) 2 (by decide) :=
      congr (congrArg₂ k0_pay9 dr_7 (load_cols (n := 1024) (o := 2048) (by decide) arg8 harg8 _ x3)) ev158
    have dr_12 : kernelRun0_A.sl.r_12 c arg14 fh3 fs3 = countUpTo (F := F) ((Memref.whole main_v3).view.read (Elt F) fh3) 2 (by decide) := congrArg₂ (k0_pay10 (F := F)) dr_8 ev158
    have dr_22 : kernelRun0_A.sl.r_22 c arg8 harg8 arg14 x3 fh3 fs3 = prodUpTo x3 ((Memref.whole main_v3).view.read (Elt F) fh3) 3 (by decide) :=
      congr (congrArg₂ k0_pay9 dr_11 (load_cols (n := 1024) (o := 3072) (by decide) arg8 harg8 _ x3)) ev225
    have dr_23 : kernelRun0_A.sl.r_23 c arg14 fh3 fs3 = countUpTo (F := F) ((Memref.whole main_v3).view.read (Elt F) fh3) 3 (by decide) := congrArg₂ (k0_pay10 (F := F)) dr_12 ev225
    have dr_29 : kernelRun0_A.sl.r_29 c arg8 harg8 arg14 x3 fh3 fs3 = prodUpTo x3 ((Memref.whole main_v3).view.read (Elt F) fh3) 4 (by decide) :=
      congr (congrArg₂ k0_pay9 dr_22 (load_cols (n := 1024) (o := 4096) (by decide) arg8 harg8 _ x3)) ev265
    have dr_30 : kernelRun0_A.sl.r_30 c arg14 fh3 fs3 = countUpTo (F := F) ((Memref.whole main_v3).view.read (Elt F) fh3) 4 (by decide) := congrArg₂ (k0_pay10 (F := F)) dr_23 ev265
    have dr_33 : kernelRun0_A.sl.r_33 c arg8 harg8 arg14 x3 fh3 fs3 = prodUpTo x3 ((Memref.whole main_v3).view.read (Elt F) fh3) 5 (by decide) :=
      congr (congrArg₂ k0_pay9 dr_29 (load_cols (n := 1024) (o := 5120) (by decide) arg8 harg8 _ x3)) ev300
    have dr_34 : kernelRun0_A.sl.r_34 c arg14 fh3 fs3 = countUpTo (F := F) ((Memref.whole main_v3).view.read (Elt F) fh3) 5 (by decide) := congrArg₂ (k0_pay10 (F := F)) dr_30 ev300
    have dr_37 : kernelRun0_A.sl.r_37 c arg8 harg8 arg14 x3 fh3 fs3 = prodUpTo x3 ((Memref.whole main_v3).view.read (Elt F) fh3) 6 (by decide) :=
      congr (congrArg₂ k0_pay9 dr_33 (load_cols (n := 1024) (o := 6144) (by decide) arg8 harg8 _ x3)) ev330
    have dr_38 : kernelRun0_A.sl.r_38 c arg14 fh3 fs3 = countUpTo (F := F) ((Memref.whole main_v3).view.read (Elt F) fh3) 6 (by decide) := congrArg₂ (k0_pay10 (F := F)) dr_34 ev330
    have dr_41 : kernelRun0_A.sl.r_41 c arg8 harg8 arg14 x3 fh3 fs3 = prodUpTo x3 ((Memref.whole main_v3).view.read (Elt F) fh3) 7 (by decide) :=
      congr (congrArg₂ k0_pay9 dr_37 (load_cols (n := 1024) (o := 7168) (by decide) arg8 harg8 _ x3)) ev360
    have dr_42 : kernelRun0_A.sl.r_42 c arg14 fh3 fs3 = countUpTo (F := F) ((Memref.whole main_v3).view.read (Elt F) fh3) 7 (by decide) := congrArg₂ (k0_pay10 (F := F)) dr_38 ev360
    have dr_45 : kernelRun0_A.sl.r_45 c arg8 harg8 arg14 x3 fh3 fs3 = prodUpTo x3 ((Memref.whole main_v3).view.read (Elt F) fh3) 8 (by decide) :=
      congr (congrArg₂ k0_pay9 dr_41 (load_cols (n := 1024) (o := 8192) (by decide) arg8 harg8 _ x3)) ev390
    have dr_46 : kernelRun0_A.sl.r_46 c arg14 fh3 fs3 = countUpTo (F := F) ((Memref.whole main_v3).view.read (Elt F) fh3) 8 (by decide) := congrArg₂ (k0_pay10 (F := F)) dr_42 ev390
    have dr_49 : kernelRun0_A.sl.r_49 c arg8 harg8 arg14 x3 fh3 fs3 = prod x3 ((Memref.whole main_v3).view.read (Elt F) fh3) :=
      congr (congrArg₂ k0_pay65 dr_45 (load_cols (n := 784) (o := 9216) (by decide) arg8 harg8 _ x3)) ev420
    have dr_50 : kernelRun0_A.sl.r_50 c arg14 fh3 fs3 = count (F := F) ((Memref.whole main_v3).view.read (Elt F) fh3) := congrArg₂ (k0_pay66 (F := F)) dr_46 ev420
    have d72 : kernelRun0_A.sl.r_53 c arg14 fh3 fs3 = k0_pay72 (F := F) (countUpTo (F := F) ((Memref.whole main_v3).view.read (Elt F) fh3) 8 (by decide)) (rows 784 9216 (by decide) ((Memref.whole main_v3).view.read (Elt F) fh3)) :=
      congrArg₂ (k0_pay72 (F := F)) dr_46 ev420
    have d16 : kernelRun0_A.sl.r_16 c arg9 harg9 arg15 x4 fh4 = k0_pay22 x4 ((Memref.whole main_v4).view.read (Elt F) fh4) :=
      congrArg₂ k0_pay22 (load_full arg9 harg9 _ x4) ev184
    have d17 : kernelRun0_A.sl.r_17 c arg15 fh4 = k0_pay23 (F := F) ((Memref.whole main_v4).view.read (Elt F) fh4) :=
      congrArg (k0_pay23 (F := F)) ev184
    have d13 : kernelRun0_A.sl.r_13 c arg7 harg7 arg13 x2 fh2 = k0_pay20 x2 ((Memref.whole main_v2).view.read (Elt F) fh2) :=
      congrArg₂ k0_pay20 (load_full arg7 harg7 _ x2) ev175
    have d14 : kernelRun0_A.sl.r_14 c arg13 fh2 = k0_pay21 (F := F) ((Memref.whole main_v2).view.read (Elt F) fh2) :=
      congrArg (k0_pay21 (F := F)) ev175
    have d18 : kernelRun0_A.sl.r_18 c arg5 harg5 arg11 x0 fh0 = k0_pay24 x0 ((Memref.whole main_v0).view.read (Elt F) fh0) :=
      congrArg₂ k0_pay24 (load_full arg5 harg5 _ x0) ev193
    have d19 : kernelRun0_A.sl.r_19 c arg11 fh0 = k0_pay25 (F := F) ((Memref.whole main_v0).view.read (Elt F) fh0) :=
      congrArg (k0_pay25 (F := F)) ev193
    have d51 : kernelRun0_A.sl.r_51 c arg5 harg5 arg11 arg12 x0 fh0 fh1 fs1 = k0_pay70 _ _ _ :=
      congr (congrArg₂ k0_pay70 d18 d19) dr_48
    have d52 : kernelRun0_A.sl.r_52 c arg7 harg7 arg13 x2 fh2 = k0_pay71 _ _ := congrArg₂ k0_pay71 d13 d14
    have hout : k0_pay1 (kernelRun0_A.sl.r_16 c arg9 harg9 arg15 x4 fh4) (kernelRun0_A.sl.r_17 c arg15 fh4)
            (kernelRun0_A.sl.r_47 c arg6 harg6 arg12 x1 fh1 fs1) (kernelRun0_A.sl.r_49 c arg8 harg8 arg14 x3 fh3 fs3)
            (kernelRun0_A.sl.r_50 c arg14 fh3 fs3) (kernelRun0_A.sl.r_51 c arg5 harg5 arg11 arg12 x0 fh0 fh1 fs1)
            (kernelRun0_A.sl.r_52 c arg7 harg7 arg13 x2 fh2) (kernelRun0_A.sl.r_53 c arg14 fh3 fs3) k0_pay73
   = out x0 x1 x2 x3 x4 ((Memref.whole main_v0).view.read (Elt F) fh0) ((Memref.whole main_v1).view.read (Elt F) fh1) ((Memref.whole main_v2).view.read (Elt F) fh2) ((Memref.whole main_v3).view.read (Elt F) fh3) ((Memref.whole main_v4).view.read (Elt F) fh4) :=
      congrFun (congr (congr (congr (congr (congr (congr (congrArg₂ k0_pay1 d16 d17) dr_47) dr_49) dr_50) d51) d52) d72) k0_pay73
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; swap; · iexact H5
      ipureintro; exact (View.read_writes_full arg10.view f5 _ _ _).trans hout
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hh0]; · iexact Hh0
    isplitl [Hh1]; · iexact Hh1
    isplitl [Hh2]; · iexact Hh2
    isplitl [Hh3]; · iexact Hh3
    isplitl [Hh4]; · iexact Hh4
    iexists _; iexact HW

end Cert.KernelIdeal.Run

end
-- ==== Proof.IdealLaunch.lean ====
/- The idealized kernel's launch: what the one pipeline's buffers hold, the body's obligation at a point, the run, and
   what the run leaves: every argument as it was, the result the transpose of the body's block. -/
module

public import proofs.«01_k».proof.Proof.IdealRun
public import Idealize.ShloMosaic.Lib.Claim
public import Idealize.ShloMosaic.Lib.Pipeline.ValueKit

@[expose] public section

set_option maxRecDepth 16384

noncomputable section

namespace Cert.KernelIdeal.Run

open Cert.KernelIdeal.Gen Cert.KernelIdeal.KernelValue
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body leaves in the output's buffer: `out` of the staged weights and of the transposed index arrays. -/
def outAt (c : Dev nD) (t : Fin cfg0.N) : FVec F S320x1024 .f32 :=
  out (iblk m c 0 t) (iblk m c 1 t) (iblk m c 2 t) (iblk m c 3 t) (iblk m c 4 t)
    ((Memref.whole main_v0).view.read (Elt F) (V m c main_v0)) ((Memref.whole main_v1).view.read (Elt F) (V m c main_v1))
    ((Memref.whole main_v2).view.read (Elt F) (V m c main_v2)) ((Memref.whole main_v3).view.read (Elt F) (V m c main_v3))
    ((Memref.whole main_v4).view.read (Elt F) (V m c main_v4))

/-- The proof data of the one pipeline on core `c`: the arrays as the region finds them (`V`); after the body at
    point `t` each input's buffer at its block and the output's at `outAt`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => outAt m c t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4⟩, Hg, ⟨Hq0, Hq1, Hq2, Hq3, Hq4, Hq5, Hq6, Hq7, Hq8, Hq9, Hq10, Hq11, Hq12⟩, ⟨Hh0, Hh1, Hh2, Hh3, Hh4⟩⟩, ⟨%W, -, HW⟩, ⟨%d0, H0⟩, ⟨%d1, H1⟩, ⟨%d2, H2⟩, ⟨%d3, H3⟩, ⟨%d4, H4⟩, ⟨%d5, H5⟩⟩
  iapply ((kernelRun0_A c _ _ _ _ _ _ _ _ _ _ _ _ _ _ _ _ _ _ _ _ _ _ (iblk m c 0 t) (iblk m c 1 t) (iblk m c 2 t) (iblk m c 3 t) (iblk m c 4 t) (V m c main_v0) (V m c main_v1) (V m c main_v2) (V m c main_v3) (V m c main_v4)) W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hh0]; · iexact Hh0
  isplitl [Hh1]; · iexact Hh1
  isplitl [Hh2]; · iexact Hh2
  isplitl [Hh3]; · iexact Hh3
  isplitl [Hh4]; · iexact Hh4
  isplitl [HW]; · iexact HW
  iintro ⟨H0, H1, H2, H3, H4, H5, HS0, HS1, HS2, HS3, HS4, Hq0, Hq1, Hq2, Hq3, Hq4, Hq5, Hq6, Hq7, Hq8, Hq9, Hq10, Hq11, Hq12, Hh0, Hh1, Hh2, Hh3, Hh4, ⟨%W', HW'⟩⟩
  isplitl [HS0 HS1 HS2 HS3 HS4 Hg Hq0 Hq1 Hq2 Hq3 Hq4 Hq5 Hq6 Hq7 Hq8 Hq9 Hq10 Hq11 Hq12 Hh0 Hh1 Hh2 Hh3 Hh4]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8 Hq9 Hq10 Hq11 Hq12]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      iexact Hq12
    isplitl [Hh0]; · iexact Hh0
    isplitl [Hh1]; · iexact Hh1
    isplitl [Hh2]; · iexact Hh2
    isplitl [Hh3]; · iexact Hh3
    iexact Hh4
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one, which takes unfolding
-- plain definitions in a metavariable's type
set_option backward.isDefEq.respectTransparency.types false in
set_option maxHeartbeats 800000 in
/-- The launch: every execution ends, with the pipeline's arrays at what the proof data says, every other buffer at
    what the host lines after the launch leave, and every semaphore counter at zero. -/
theorem run_main : θ_run defs (onTc (τ := τ) (main (F := F))) (s₀ m ρ) (fun r =>
      (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmainD m Variants.none) (hA := A_eq m) (hin := fun _ => .rfl) (hout := fun _ => .rfl)

/-! ## What the run leaves -/

/-- A buffer that no window stages and the last transpose does not write ends as the region found it. -/
theorem tail_eq (c : Dev nD) (b : Ref sig .tc) (hb : Proc.devRef (τ := τ) .tc b ≠ Proc.devRef .tc main_v6)
    (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.unary_writes,
        Finset.mem_singleton]
      exact hb)),
    Pipeline.withArrays_of_ne _ c (V0 m c) _ b (by exact hw)]

/-- The result: the transpose of the array the launch wrote. -/
theorem tail_out (c : Dev nD) :
    Pipeline.afterTail₀ cfgs (dats m) 0 (V0 m) [hostOps1] c main_v6
      = transpose S1024x320 [1, 0] ((dats m 0 c).arrAt 5 (cfgs 0).N) transposes_S320x1024_S1024x320_1_0 := by
  unfold Pipeline.afterTail₀
  have h : Pipeline.withArrays spec0 c (V0 m c) (fun w => (dats m 0 c).arrAt w (cfgs 0).N) (Proc.devRef .tc main_v5)
      = (dats m 0 c).arrAt 5 (cfgs 0).N := Pipeline.withArrays_arr spec0 launch0.win.arr_inj c (V0 m c) _ 5
  simp only [hostOps1, List.flatten_cons, List.flatten_nil, List.append_nil]
  after_results_simp
  rw [h]

/-- The launch's one point. -/
abbrev pt : Fin cfg0.N := ⟨0, by decide⟩

/-- The array the launch wrote: its one point covers it. -/
theorem arr_out (c : Dev nD) : (dats m 0 c).arrAt 5 (cfgs 0).N = outAt m c pt := by
  refine (dats m 0 c).arrAt_eq_of_after_last 5 pt (by decide +kernel) _ fun j => ?_
  rw [after0_5]
  blk_simp

/-! ## The output as a function of the arguments -/

/-- The block staged in window 0 is its whole array, an argument of the program. -/
theorem iblk_0 (c : Dev nD) : iblk m c 0 pt = m ((c : Thread nD τ).loc main_arg5) := by
  funext j
  have e : ∀ a, win0_0.index pt a = 0 := fun a => rfl
  blk_simp [iblk]
  rw [V_main_arg5]
  exact congrArg _ (funext fun a => Fin.ext (by blk_simp; rw [e a, Nat.zero_mul, Nat.zero_add]))
/-- The block staged in window 1 is its whole array, an argument of the program. -/
theorem iblk_1 (c : Dev nD) : iblk m c 1 pt = m ((c : Thread nD τ).loc main_arg6) := by
  funext j
  have e : ∀ a, win0_1.index pt a = 0 := fun a => rfl
  blk_simp [iblk]
  rw [V_main_arg6]
  exact congrArg _ (funext fun a => Fin.ext (by blk_simp; rw [e a, Nat.zero_mul, Nat.zero_add]))
/-- The block staged in window 2 is its whole array, an argument of the program. -/
theorem iblk_2 (c : Dev nD) : iblk m c 2 pt = m ((c : Thread nD τ).loc main_arg7) := by
  funext j
  have e : ∀ a, win0_2.index pt a = 0 := fun a => rfl
  blk_simp [iblk]
  rw [V_main_arg7]
  exact congrArg _ (funext fun a => Fin.ext (by blk_simp; rw [e a, Nat.zero_mul, Nat.zero_add]))
/-- The block staged in window 3 is its whole array, an argument of the program. -/
theorem iblk_3 (c : Dev nD) : iblk m c 3 pt = m ((c : Thread nD τ).loc main_arg8) := by
  funext j
  have e : ∀ a, win0_3.index pt a = 0 := fun a => rfl
  blk_simp [iblk]
  rw [V_main_arg8]
  exact congrArg _ (funext fun a => Fin.ext (by blk_simp; rw [e a, Nat.zero_mul, Nat.zero_add]))
/-- The block staged in window 4 is its whole array, an argument of the program. -/
theorem iblk_4 (c : Dev nD) : iblk m c 4 pt = m ((c : Thread nD τ).loc main_arg9) := by
  funext j
  have e : ∀ a, win0_4.index pt a = 0 := fun a => rfl
  blk_simp [iblk]
  rw [V_main_arg9]
  exact congrArg _ (funext fun a => Fin.ext (by blk_simp; rw [e a, Nat.zero_mul, Nat.zero_add]))
/-- The transpose made before the launch of index array 0. -/
theorem index_0 (c : Dev nD) : V m c main_v0
    = transpose S16x1024 [1, 0] (m ((c : Thread nD τ).loc main_arg0)) transposes_S1024x16_S16x1024_1_0 := by
  show StableHlo.after (List.flatten [hostOps0]) (fun b => m (c, b)) (Proc.devRef .tc main_v0) = _
  simp only [hostOps0, List.flatten_cons, List.flatten_nil, List.append_nil]
  after_results_simp
/-- The transpose made before the launch of index array 1. -/
theorem index_1 (c : Dev nD) : V m c main_v1
    = transpose S10000x1024 [1, 0] (m ((c : Thread nD τ).loc main_arg1)) transposes_S1024x10000_S10000x1024_1_0 := by
  show StableHlo.after (List.flatten [hostOps0]) (fun b => m (c, b)) (Proc.devRef .tc main_v1) = _
  simp only [hostOps0, List.flatten_cons, List.flatten_nil, List.append_nil]
  after_results_simp
/-- The transpose made before the launch of index array 2. -/
theorem index_2 (c : Dev nD) : V m c main_v2
    = transpose S1000x1024 [1, 0] (m ((c : Thread nD τ).loc main_arg2)) transposes_S1024x1000_S1000x1024_1_0 := by
  show StableHlo.after (List.flatten [hostOps0]) (fun b => m (c, b)) (Proc.devRef .tc main_v2) = _
  simp only [hostOps0, List.flatten_cons, List.flatten_nil, List.append_nil]
  after_results_simp
/-- The transpose made before the launch of index array 3. -/
theorem index_3 (c : Dev nD) : V m c main_v3
    = transpose S10000x1024 [1, 0] (m ((c : Thread nD τ).loc main_arg3)) transposes_S1024x10000_S10000x1024_1_0 := by
  show StableHlo.after (List.flatten [hostOps0]) (fun b => m (c, b)) (Proc.devRef .tc main_v3) = _
  simp only [hostOps0, List.flatten_cons, List.flatten_nil, List.append_nil]
  after_results_simp
/-- The transpose made before the launch of index array 4. -/
theorem index_4 (c : Dev nD) : V m c main_v4
    = transpose S1000x1024 [1, 0] (m ((c : Thread nD τ).loc main_arg4)) transposes_S1024x1000_S1000x1024_1_0 := by
  show StableHlo.after (List.flatten [hostOps0]) (fun b => m (c, b)) (Proc.devRef .tc main_v4) = _
  simp only [hostOps0, List.flatten_cons, List.flatten_nil, List.append_nil]
  after_results_simp

/-- The program's result, from its arguments: the transpose of `out`. -/
def result (c : Dev nD) : FVec F S1024x320 .f32 :=
  transpose S1024x320 [1, 0]
    (out (m ((c : Thread nD τ).loc main_arg5)) (m ((c : Thread nD τ).loc main_arg6)) (m ((c : Thread nD τ).loc main_arg7))
      (m ((c : Thread nD τ).loc main_arg8)) (m ((c : Thread nD τ).loc main_arg9))
      (transpose S16x1024 [1, 0] (m ((c : Thread nD τ).loc main_arg0)) transposes_S1024x16_S16x1024_1_0)
      (transpose S10000x1024 [1, 0] (m ((c : Thread nD τ).loc main_arg1)) transposes_S1024x10000_S10000x1024_1_0)
      (transpose S1000x1024 [1, 0] (m ((c : Thread nD τ).loc main_arg2)) transposes_S1024x1000_S1000x1024_1_0)
      (transpose S10000x1024 [1, 0] (m ((c : Thread nD τ).loc main_arg3)) transposes_S1024x10000_S10000x1024_1_0)
      (transpose S1000x1024 [1, 0] (m ((c : Thread nD τ).loc main_arg4)) transposes_S1024x1000_S1000x1024_1_0))
    transposes_S320x1024_S1024x320_1_0

theorem tail_result (c : Dev nD) :
    Pipeline.afterTail₀ cfgs (dats m) 0 (V0 m) [hostOps1] c main_v6 = result m c := by
  rw [tail_out, arr_out]
  unfold outAt result
  rw [iblk_0, iblk_1, iblk_2, iblk_3, iblk_4, index_0, index_1, index_2, index_3, index_4]
  rfl

/-- What every execution ends with: the result, the arguments as they were, every semaphore counter at zero. -/
theorem run_value : θ_run defs (onTc (τ := τ) (main (F := F))) ⟨m, fun _ => 0, ρ⟩ (fun r => (∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨((h.1 c).2 main_v6 (Pipeline.mem_restRefs_of main_v6 (by decide) (by decide))).trans (tail_result m c),
    ((h.1 c).2 main_arg0 (Pipeline.mem_restRefs_of main_arg0 (by decide) (by decide))).trans
      ((tail_eq m c main_arg0 (StableHlo.devRef_ne_of_ne (by decide)) (by decide)).trans (V_main_arg0 m c)),
    ((h.1 c).2 main_arg1 (Pipeline.mem_restRefs_of main_arg1 (by decide) (by decide))).trans
      ((tail_eq m c main_arg1 (StableHlo.devRef_ne_of_ne (by decide)) (by decide)).trans (V_main_arg1 m c)),
    ((h.1 c).2 main_arg2 (Pipeline.mem_restRefs_of main_arg2 (by decide) (by decide))).trans
      ((tail_eq m c main_arg2 (StableHlo.devRef_ne_of_ne (by decide)) (by decide)).trans (V_main_arg2 m c)),
    ((h.1 c).2 main_arg3 (Pipeline.mem_restRefs_of main_arg3 (by decide) (by decide))).trans
      ((tail_eq m c main_arg3 (StableHlo.devRef_ne_of_ne (by decide)) (by decide)).trans (V_main_arg3 m c)),
    ((h.1 c).2 main_arg4 (Pipeline.mem_restRefs_of main_arg4 (by decide) (by decide))).trans
      ((tail_eq m c main_arg4 (StableHlo.devRef_ne_of_ne (by decide)) (by decide)).trans (V_main_arg4 m c)),
    ((h.1 c).1 0).trans (((dats m 0 c).arrAt_in 0 rfl _).trans ((A_eq m c 0).trans (V_main_arg5 m c))),
    ((h.1 c).1 1).trans (((dats m 0 c).arrAt_in 1 rfl _).trans ((A_eq m c 1).trans (V_main_arg6 m c))),
    ((h.1 c).1 2).trans (((dats m 0 c).arrAt_in 2 rfl _).trans ((A_eq m c 2).trans (V_main_arg7 m c))),
    ((h.1 c).1 3).trans (((dats m 0 c).arrAt_in 3 rfl _).trans ((A_eq m c 3).trans (V_main_arg8 m c))),
    ((h.1 c).1 4).trans (((dats m 0 c).arrAt_in 4 rfl _).trans ((A_eq m c 4).trans (V_main_arg9 m c)))⟩, h.2⟩) (run_main m ρ)

end Cert.KernelIdeal.Run

end
-- ==== Proof.WordFrame.lean ====
/- The frame of the kernel over words.

   The kernel and its idealization are the same program: the same memory, the same body, the same host lines. The run proved
   for the idealization holds whatever floats are, so it holds over words too, and there it is the kernel's. -/
module

public import proofs.«01_k».proof.Defs
public import proofs.«01_k».proof.Proof.Gen.Kernel
public import proofs.«01_k».proof.Proof.IdealLaunch

@[expose] public section

set_option maxRecDepth 16384

noncomputable section

namespace Cert.WordFrame

open Idealize.ShloMosaic Idealize.SL.Sem

variable (F : FTy → Type) [FloatOps F]

/-- The two programs' kernel bodies are one: at the only label, the same function on the same operands. -/
theorem bodies_eq : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun ⟨t, s⟩ => rfl
  | ⟨_ + 1, h⟩ => exact absurd h (Nat.not_lt.2 (Nat.le_add_left _ _))

/-- So are their tables of bodies and launches. -/
theorem defs_eq : Cert.Kernel.defs (F := F) = Cert.KernelIdeal.defs (F := F) := by
  unfold Cert.Kernel.defs Cert.KernelIdeal.defs
  rw [bodies_eq]
  rfl

/-- The kernel ends with its arguments unchanged and every semaphore counter at zero. -/
theorem kernel_frame : Cert.quiescent_Kernel (hKernel := Cert.Kernel.Gen.facts) := fun m ρ _ => by
  rw [defs_eq]
  exact (θ_run Cert.KernelIdeal.defs _ _).mono (fun _ h => ⟨fun c => (h.1 c).2, h.2⟩)
    (Cert.KernelIdeal.Run.run_value (F := Bits) m ρ)

end Cert.WordFrame

end
-- ==== Proof.Mean.lean ====
/- Two scalar facts the equation rests on.

   A count. The kernel counts a column in 32-bit words and turns the count into a number; the reference turns each entry
   into a number and adds the numbers. Where every entry is 0 or 1 the words cannot wrap, and the two agree.

   A mean. A sum is divided by its count where the count is not zero and left as it is where the count is zero. The kernel
   asks whether the word is zero, the reference whether the number is; these are the same question. -/
module

public import Idealize.ShloMosaic.Lib.WordSum
public import Idealize.ShloMosaic.Lib.Pointwise

@[expose] public section

noncomputable section

namespace Cert.Mean

open Idealize.ShloMosaic

/-- The number a 32-bit word stands for. -/
def num (b : BitVec 32) : EReal := ((b.toInt : ℝ) : EReal)

theorem sitofp_f32 (b : BitVec 32) : (FloatOps.sitofp (F := Ideal) .f32 b : EReal) = num b := rfl
theorem sitofp_bf16 (b : BitVec 32) : (FloatOps.sitofp (F := Ideal) .bf16 b : EReal) = num b := rfl

/-- `y` divided by `t`, or `y` itself where `t` is zero. -/
def mean (t y : EReal) : EReal := if t = 0 then y else Ideal.div y t

/-- A word is 0 or 1. -/
def Bit (b : BitVec 32) : Prop := b.toNat ≤ 1

theorem num_of_small {b : BitVec 32} (h : b.toNat < 2 ^ 31) : num b = ((b.toNat : ℕ) : EReal) := by
  unfold num
  rw [BitVec.toInt_eq_toNat_of_lt (by omega)]
  simp

/-- The number of a count of bits is the sum of the bits' numbers. -/
theorem num_sum {n : ℕ} (hn : n < 2 ^ 31) (x : Fin n → BitVec 32) (hx : ∀ k, Bit (x k)) :
    num (∑ k, x k) = ∑ k, num (x k) := by
  have hle : ∑ k, (x k).toNat ≤ n := by
    simpa using Finset.sum_le_card_nsmul Finset.univ (fun k => (x k).toNat) 1 fun k _ => hx k
  have hs : (∑ k, x k).toNat = ∑ k, (x k).toNat := WordSum.toNat_sum Finset.univ x (by omega)
  rw [num_of_small (by omega), hs, Nat.cast_sum]
  exact Finset.sum_congr rfl fun k _ => (num_of_small (lt_of_le_of_lt (hx k) (by decide))).symm

/-- A word's number is zero exactly when the word is. -/
theorem num_eq_zero (b : BitVec 32) : num b = 0 ↔ b = 0#32 := by
  unfold num
  rw [EReal.coe_eq_zero, Int.cast_eq_zero]
  exact ⟨fun h => BitVec.eq_of_toInt_eq (by simpa using h), fun h => by rw [h]; rfl⟩

/-- The kernel's division by a word count. -/
theorem word_mean (s : BitVec 32) (y : EReal) :
    Scalar.select (IntOp.cmpi .ne s 0#32) (Ideal.div y (num (Scalar.select (IntOp.cmpi .ne s 0#32) s 1#32))) y
      = mean (num s) y := by
  unfold mean
  simp only [num_eq_zero]
  by_cases h : s = 0#32
  · subst h; rfl
  · have e : IntOp.cmpi .ne s 0#32 = 1#1 := by
      show BitVec.ofBool (s != 0#32) = 1#1
      rw [bne_iff_ne.mpr h]; rfl
    rw [e, if_neg h]; rfl

/-- The reference's division by a count in numbers; what it divides by where the count is zero does not matter. -/
theorem number_mean (t y z : EReal) [Decidable (t ≠ 0)] :
    (if t ≠ 0 then Ideal.div y (if t ≠ 0 then t else z) else y) = mean t y := by
  unfold mean
  by_cases h : t = 0
  · rw [if_neg (not_not.mpr h), if_pos h]
  · rw [if_pos h, if_pos h, if_neg h]

/-- Five bands of 64 entries, one after another. -/
def stack (f0 f1 f2 f3 f4 : Fin 64 → EReal) (r : Fin 320) : EReal :=
  if h0 : r.val < 64 then f0 ⟨r.val, h0⟩
  else if h1 : r.val - 64 < 64 then f1 ⟨r.val - 64, h1⟩
  else if h2 : r.val - 64 - 64 < 64 then f2 ⟨r.val - 64 - 64, h2⟩
  else if h3 : r.val - 64 - 64 - 64 < 64 then f3 ⟨r.val - 64 - 64 - 64, h3⟩
  else f4 ⟨r.val - 64 - 64 - 64 - 64, by have := r.isLt; omega⟩

end Cert.Mean

end
-- ==== Proof.KernelRead.lean ====
/- The kernel's output read at an index, over the extended reals.

   A product accumulated block by block is the whole sum over the 10000 rows, and so is a count; so each of the five
   stacked bands is a product of a weight row with an index column, divided by that column's count. -/
module

public import proofs.«01_k».proof.Proof.KernelValue
public import proofs.«01_k».proof.Proof.Mean

@[expose] public section

set_option maxRecDepth 16384

noncomputable section

namespace Cert.KernelIdeal.KernelRead

open Cert.KernelIdeal Cert.KernelIdeal.Gen Cert.KernelIdeal.KernelValue Cert.KernelIdeal.Slots Cert.Mean
open Idealize.ShloMosaic

/-! ## Sums in blocks -/

section Blocks

variable {M : Type} [AddCommMonoid M]

/-- A function on the first `n` numbers, zero beyond them. -/
def ext {n : ℕ} (f : Fin n → M) (k : ℕ) : M := if h : k < n then f ⟨k, h⟩ else 0

theorem ext_of_lt {n : ℕ} (f : Fin n → M) {k : ℕ} (h : k < n) : ext f k = f ⟨k, h⟩ := dif_pos h

/-- The whole sum, as a sum over a range. -/
theorem sum_all {n : ℕ} (f : Fin n → M) : ∑ k, f k = ∑ k ∈ Finset.range n, ext f k := by
  rw [Finset.sum_range]
  exact Finset.sum_congr rfl fun k _ => (ext_of_lt f k.isLt).symm

/-- A block of `b` terms from term `o` on, added to the sum of the `o` terms before it. -/
theorem sum_block {n : ℕ} (f : Fin n → M) (o b : ℕ) (h : o + b ≤ n) :
    ∑ k ∈ Finset.range o, ext f k + ∑ k : Fin b, f ⟨o + k.val, by have := k.isLt; omega⟩
      = ∑ k ∈ Finset.range (o + b), ext f k := by
  rw [Finset.sum_range_add, Finset.sum_range (fun k => ext f (o + k))]
  congr 1
  exact Finset.sum_congr rfl fun k _ => (ext_of_lt f (by have := k.isLt; omega)).symm

/-- The first block alone. -/
theorem sum_first {n : ℕ} (f : Fin n → M) (b : ℕ) (h : 0 + b ≤ n) :
    ∑ k : Fin b, f ⟨0 + k.val, by have := k.isLt; omega⟩ = ∑ k ∈ Finset.range b, ext f k := by
  have e := sum_block f 0 b h
  rwa [Finset.range_zero, Finset.sum_empty, zero_add, Nat.zero_add] at e

end Blocks

/-- An integer reduction's fold is the words' sum. -/
theorem fold_eq {n : ℕ} (f : Fin n → BitVec 32) : Finset.fold IntOp.addi 0#32 f Finset.univ = ∑ k, f k :=
  (Finset.sum_eq_fold _ f).symm

theorem addi_eq (a b : BitVec 32) : IntOp.addi a b = a + b := rfl

/-! ## One block -/

theorem pay3_apply (w : Vec Ideal S64x1024 .f32) (x : Vec Ideal S1x1024x1024 .i32) (d : Fin 64) (b : Fin 1024) :
    k0_pay3 (F := Ideal) w x (ix2 d b) = ∑ k : Fin 1024, w (ix2 d k) * num (x (ix3 0 k b)) := by
  pointwise [k0_pay3, k0_pay2, sitofp_bf16]
theorem pay9_apply (y : FVec Ideal S64x1024 .f32) (w : Vec Ideal S64x1024 .f32) (x : Vec Ideal S1x1024x1024 .i32) (d : Fin 64)
    (b : Fin 1024) :
    k0_pay9 (F := Ideal) y w x (ix2 d b) = y (ix2 d b) + ∑ k : Fin 1024, w (ix2 d k) * num (x (ix3 0 k b)) := by
  pointwise [k0_pay9, k0_pay8, sitofp_bf16]
theorem pay65_apply (y : FVec Ideal S64x1024 .f32) (w : Vec Ideal S64x784 .f32) (x : Vec Ideal S1x784x1024 .i32) (d : Fin 64)
    (b : Fin 1024) :
    k0_pay65 (F := Ideal) y w x (ix2 d b) = y (ix2 d b) + ∑ k : Fin 784, w (ix2 d k) * num (x (ix3 0 k b)) := by
  pointwise [k0_pay65, k0_pay64, sitofp_bf16]
theorem pay4_apply (x : Vec Ideal S1x1024x1024 .i32) (b : Fin 1024) :
    k0_pay4 (F := Ideal) x (ix2 0 b) = ∑ k : Fin 1024, (x (ix3 0 k b) : BitVec 32) := by
  pointwise [k0_pay4, k0_pay2, fold_eq]
theorem pay10_apply (s : IVec S1x1024 32) (x : Vec Ideal S1x1024x1024 .i32) (b : Fin 1024) :
    k0_pay10 (F := Ideal) s x (ix2 0 b) = s (ix2 0 b) + ∑ k : Fin 1024, (x (ix3 0 k b) : BitVec 32) := by
  pointwise [k0_pay10, k0_pay8, fold_eq, addi_eq]
theorem pay66_apply (s : IVec S1x1024 32) (x : Vec Ideal S1x784x1024 .i32) (b : Fin 1024) :
    k0_pay66 (F := Ideal) s x (ix2 0 b) = s (ix2 0 b) + ∑ k : Fin 784, (x (ix3 0 k b) : BitVec 32) := by
  pointwise [k0_pay66, k0_pay64, fold_eq, addi_eq]

/-! ## The long products and counts -/

/-- The terms of one element of a long product. -/
def term (W : Vec Ideal S64x10000 .f32) (X : Vec Ideal S10000x1024 .i32) (d : Fin 64) (b : Fin 1024) (k : Fin 10000) : EReal :=
  W (ix2 d k) * num (X (ix2 k b))

/-- The terms of one long count. -/
def word (X : Vec Ideal S10000x1024 .i32) (b : Fin 1024) (k : Fin 10000) : BitVec 32 := X (ix2 k b)

theorem term_block (W : Vec Ideal S64x10000 .f32) (X : Vec Ideal S10000x1024 .i32) (d : Fin 64) (b : Fin 1024) (n o : ℕ)
    (h : o + n ≤ 10000) (k : Fin n) :
    cols (Val := Elt Ideal) n o h W (ix2 d k) * num (rows (Val := Elt Ideal) n o h X (ix3 0 k b))
      = term W X d b ⟨o + k.val, by have := k.isLt; omega⟩ := rfl

theorem word_block (X : Vec Ideal S10000x1024 .i32) (b : Fin 1024) (n o : ℕ) (h : o + n ≤ 10000) (k : Fin n) :
    rows (Val := Elt Ideal) n o h X (ix3 0 k b) = word X b ⟨o + k.val, by have := k.isLt; omega⟩ := rfl

theorem prodUpTo_apply (W : Vec Ideal S64x10000 .f32) (X : Vec Ideal S10000x1024 .i32) (d : Fin 64) (b : Fin 1024) (k : ℕ)
    (h : k < 9) : prodUpTo W X k h (ix2 d b) = ∑ j ∈ Finset.range (1024 * (k + 1)), ext (term W X d b) j := by
  induction k with
  | zero =>
    rw [prodUpTo, pay3_apply, Finset.sum_congr rfl fun j _ => term_block W X d b 1024 0 _ j]
    exact sum_first (term W X d b) 1024 (by decide)
  | succ k ih =>
    rw [prodUpTo, pay9_apply, Finset.sum_congr rfl fun j _ => term_block W X d b 1024 (1024 * (k + 1)) _ j, ih]
    exact sum_block (term W X d b) (1024 * (k + 1)) 1024 (by omega)

theorem prod_apply (W : Vec Ideal S64x10000 .f32) (X : Vec Ideal S10000x1024 .i32) (d : Fin 64) (b : Fin 1024) :
    prod W X (ix2 d b) = ∑ k, W (ix2 d k) * num (X (ix2 k b)) := by
  rw [prod, pay65_apply, Finset.sum_congr rfl fun j _ => term_block W X d b 784 9216 _ j, prodUpTo_apply]
  exact (sum_block (term W X d b) 9216 784 (by decide)).trans (sum_all (term W X d b)).symm

theorem countUpTo_apply (X : Vec Ideal S10000x1024 .i32) (b : Fin 1024) (k : ℕ) (h : k < 9) :
    countUpTo (F := Ideal) X k h (ix2 0 b) = ∑ j ∈ Finset.range (1024 * (k + 1)), ext (word X b) j := by
  induction k with
  | zero =>
    rw [countUpTo, pay4_apply, Finset.sum_congr rfl fun j _ => word_block X b 1024 0 _ j]
    exact sum_first (word X b) 1024 (by decide)
  | succ k ih =>
    rw [countUpTo, pay10_apply, Finset.sum_congr rfl fun j _ => word_block X b 1024 (1024 * (k + 1)) _ j, ih]
    exact sum_block (word X b) (1024 * (k + 1)) 1024 (by omega)

theorem count_apply (X : Vec Ideal S10000x1024 .i32) (b : Fin 1024) :
    KernelValue.count (F := Ideal) X (ix2 0 b) = ∑ k, (X (ix2 k b) : BitVec 32) := by
  rw [KernelValue.count, pay66_apply, Finset.sum_congr rfl fun j _ => word_block X b 784 9216 _ j, countUpTo_apply]
  exact (sum_block (word X b) 9216 784 (by decide)).trans (sum_all (word X b)).symm

/-! ## The short products and counts -/

theorem dims_apply (w : Vec Ideal S64x16 .f32) (X : Vec Ideal S16x1024 .i32) (d : Fin 64) (b : Fin 1024) :
    k0_pay24 (F := Ideal) w X (ix2 d b) = ∑ k, w (ix2 d k) * num (X (ix2 k b)) := by
  pointwise [k0_pay24, sitofp_bf16]
theorem dimsCount_apply (X : Vec Ideal S16x1024 .i32) (b : Fin 1024) :
    k0_pay25 (F := Ideal) X (ix2 0 b) = ∑ k, (X (ix2 k b) : BitVec 32) := by
  pointwise [k0_pay25]; rw [fold_eq]
theorem cats_apply (w : Vec Ideal S64x1000 .f32) (X : Vec Ideal S1000x1024 .i32) (d : Fin 64) (b : Fin 1024) :
    k0_pay20 (F := Ideal) w X (ix2 d b) = ∑ k, w (ix2 d k) * num (X (ix2 k b)) := by
  pointwise [k0_pay20, sitofp_bf16]
theorem catsCount_apply (X : Vec Ideal S1000x1024 .i32) (b : Fin 1024) :
    k0_pay21 (F := Ideal) X (ix2 0 b) = ∑ k, (X (ix2 k b) : BitVec 32) := by
  pointwise [k0_pay21]; rw [fold_eq]
theorem comps_apply (w : Vec Ideal S64x1000 .f32) (X : Vec Ideal S1000x1024 .i32) (d : Fin 64) (b : Fin 1024) :
    k0_pay22 (F := Ideal) w X (ix2 d b) = ∑ k, w (ix2 d k) * num (X (ix2 k b)) := by
  pointwise [k0_pay22, sitofp_bf16]
theorem compsCount_apply (X : Vec Ideal S1000x1024 .i32) (b : Fin 1024) :
    k0_pay23 (F := Ideal) X (ix2 0 b) = ∑ k, (X (ix2 k b) : BitVec 32) := by
  pointwise [k0_pay23]; rw [fold_eq]

/-! ## The means -/

theorem twice_apply (y : FVec Ideal S64x1024 .f32) (s t : IVec S1x1024 32) (d : Fin 64) (b : Fin 1024) :
    k0_pay70 (F := Ideal) y s t (ix2 d b)
      = mean (num (t (ix2 0 b))) (mean (num (s (ix2 0 b))) (y (ix2 d b))) := by
  pointwise [k0_pay70, sitofp_f32]
  rw [word_mean, word_mean]

theorem once_apply (y : FVec Ideal S64x1024 .f32) (s : IVec S1x1024 32) (d : Fin 64) (b : Fin 1024) :
    k0_pay71 (F := Ideal) y s (ix2 d b) = mean (num (s (ix2 0 b))) (y (ix2 d b)) := by
  pointwise [k0_pay71, sitofp_f32]
  rw [word_mean]

/-- The comparison of the persons' counts with zero, made from the count before its last block. -/
theorem persons_apply (X : Vec Ideal S10000x1024 .i32) (b : Fin 1024) :
    k0_pay72 (F := Ideal) (countUpTo (F := Ideal) X 8 (by decide)) (rows (Val := Elt Ideal) 784 9216 (by decide) X) (ix2 0 b)
      = IntOp.cmpi .ne (KernelValue.count (F := Ideal) X (ix2 0 b)) 0#32 := rfl

/-- The output at row `r` and column `b`: the five bands. -/
theorem out_apply (w0 : Vec Ideal S64x16 .f32) (w1 : Vec Ideal S64x10000 .f32) (w2 : Vec Ideal S64x1000 .f32)
    (w3 : Vec Ideal S64x10000 .f32) (w4 : Vec Ideal S64x1000 .f32) (X0 : Vec Ideal S16x1024 .i32)
    (X1 : Vec Ideal S10000x1024 .i32) (X2 : Vec Ideal S1000x1024 .i32) (X3 : Vec Ideal S10000x1024 .i32)
    (X4 : Vec Ideal S1000x1024 .i32) (r : Fin 320) (b : Fin 1024) :
    out w0 w1 w2 w3 w4 X0 X1 X2 X3 X4 (ix2 r b)
      = stack
        (fun d => mean (num (∑ k, (X1 (ix2 k b) : BitVec 32)))
          (mean (num (∑ k, (X0 (ix2 k b) : BitVec 32))) (∑ k, w0 (ix2 d k) * num (X0 (ix2 k b)))))
        (fun d => ∑ k, w1 (ix2 d k) * num (X1 (ix2 k b)))
        (fun d => mean (num (∑ k, (X2 (ix2 k b) : BitVec 32))) (∑ k, w2 (ix2 d k) * num (X2 (ix2 k b))))
        (fun d => mean (num (∑ k, (X3 (ix2 k b) : BitVec 32))) (∑ k, w3 (ix2 d k) * num (X3 (ix2 k b))))
        (fun d => mean (num (∑ k, (X4 (ix2 k b) : BitVec 32))) (∑ k, w4 (ix2 d k) * num (X4 (ix2 k b)))) r := by
  unfold out stack
  pointwise [k0_pay1, k0_pay73, sitofp_f32]
  simp only [persons_apply, word_mean, twice_apply, once_apply, prod_apply, count_apply, dims_apply, dimsCount_apply, cats_apply,
    catsCount_apply, comps_apply, compsCount_apply]

end Cert.KernelIdeal.KernelRead

end
-- ==== Proof.RefRead.lean ====
/- The reference read at an index, over the extended reals: each of the five bands is the product of an index row with a
   weight row, four of them divided by the row's count where the count is not zero. -/
module

public import proofs.«01_k».proof.Proof.Gen.ReferenceIdeal.Read
public import proofs.«01_k».proof.Proof.Mean

@[expose] public section

set_option maxRecDepth 16384

noncomputable section

namespace Cert.ReferenceIdeal.RefRead

open Cert.ReferenceIdeal Cert.ReferenceIdeal.Read Cert.Mean
open Idealize.ShloMosaic

/-- The sum over the decades, divided by the decades' count and then by the movies'. -/
theorem dims_apply (x0 : Vec Ideal S1024x16 .i32) (x1 : Vec Ideal S1024x10000 .i32) (x5 : Vec Ideal S64x16 .f32) (b : Fin 1024) (d : Fin 64) :
    val_main_v23 (F := Ideal) x0 x1 x5 (ix2 b d)
      = mean (∑ k, num (x1 (ix2 b k))) (mean (∑ k, num (x0 (ix2 b k))) (∑ k, num (x0 (ix2 b k)) * x5 (ix2 d k))) := by
  pointwise [val_main_v23, val_main_call3_v0, val_main_v18, val_main_v17, val_main_v15, val_main_v12, val_main_cst_2, val_main_v16, val_main_cst_3, val_main_v22, val_main_v11, val_main_call1_v0, val_main_v6, val_main_v5, val_main_v3, val_main_v0, val_main_cst, val_main_v4, val_main_cst_0, val_main_v10, val_main_v2, val_main_v1, val_main_v9, val_main_v8, val_main_v7, val_main_call0_v1, val_main_call0_v0, val_main_cst_1, val_main_v21, val_main_v20, val_main_v19, val_main_call2_v1, val_main_call2_v0, val_main_cst_4, sitofp_f32]
  rw [number_mean, number_mean]

/-- The sum over the movies, not divided. -/
theorem movies_apply (x1 : Vec Ideal S1024x10000 .i32) (x6 : Vec Ideal S64x10000 .f32) (b : Fin 1024) (d : Fin 64) :
    val_main_v14 (F := Ideal) x1 x6 (ix2 b d)
      = ∑ k, num (x1 (ix2 b k)) * x6 (ix2 d k) := by
  pointwise [val_main_v14, val_main_v12, val_main_v13, sitofp_f32]

/-- The mean over the categories. -/
theorem cats_apply (x2 : Vec Ideal S1024x1000 .i32) (x7 : Vec Ideal S64x1000 .f32) (b : Fin 1024) (d : Fin 64) :
    val_main_v35 (F := Ideal) x2 x7 (ix2 b d)
      = mean (∑ k, num (x2 (ix2 b k))) (∑ k, num (x2 (ix2 b k)) * x7 (ix2 d k)) := by
  pointwise [val_main_v35, val_main_call5_v0, val_main_v30, val_main_v29, val_main_v27, val_main_v24, val_main_cst_5, val_main_v28, val_main_cst_6, val_main_v34, val_main_v26, val_main_v25, val_main_v33, val_main_v32, val_main_v31, val_main_call4_v1, val_main_call4_v0, val_main_cst_7, sitofp_f32]
  rw [number_mean]

/-- The mean over the persons. -/
theorem persons_apply (x3 : Vec Ideal S1024x10000 .i32) (x8 : Vec Ideal S64x10000 .f32) (b : Fin 1024) (d : Fin 64) :
    val_main_v47 (F := Ideal) x3 x8 (ix2 b d)
      = mean (∑ k, num (x3 (ix2 b k))) (∑ k, num (x3 (ix2 b k)) * x8 (ix2 d k)) := by
  pointwise [val_main_v47, val_main_call7_v0, val_main_v42, val_main_v41, val_main_v39, val_main_v36, val_main_cst_8, val_main_v40, val_main_cst_9, val_main_v46, val_main_v38, val_main_v37, val_main_v45, val_main_v44, val_main_v43, val_main_call6_v1, val_main_call6_v0, val_main_cst_10, sitofp_f32]
  rw [number_mean]

/-- The mean over the companies. -/
theorem comps_apply (x4 : Vec Ideal S1024x1000 .i32) (x9 : Vec Ideal S64x1000 .f32) (b : Fin 1024) (d : Fin 64) :
    val_main_v59 (F := Ideal) x4 x9 (ix2 b d)
      = mean (∑ k, num (x4 (ix2 b k))) (∑ k, num (x4 (ix2 b k)) * x9 (ix2 d k)) := by
  pointwise [val_main_v59, val_main_call9_v0, val_main_v54, val_main_v53, val_main_v51, val_main_v48, val_main_cst_11, val_main_v52, val_main_cst_12, val_main_v58, val_main_v50, val_main_v49, val_main_v57, val_main_v56, val_main_v55, val_main_call8_v1, val_main_call8_v0, val_main_cst_13, sitofp_f32]
  rw [number_mean]

/-- The result at row `b` and column `r`: the five bands. -/
theorem result_apply (x0 : Vec Ideal S1024x16 .i32) (x1 : Vec Ideal S1024x10000 .i32) (x2 : Vec Ideal S1024x1000 .i32)
    (x3 : Vec Ideal S1024x10000 .i32) (x4 : Vec Ideal S1024x1000 .i32) (x5 : Vec Ideal S64x16 .f32)
    (x6 : Vec Ideal S64x10000 .f32) (x7 : Vec Ideal S64x1000 .f32) (x8 : Vec Ideal S64x10000 .f32)
    (x9 : Vec Ideal S64x1000 .f32) (b : Fin 1024) (r : Fin 320) :
    val_main_v60 (F := Ideal) x0 x1 x2 x3 x4 x5 x6 x7 x8 x9 (ix2 b r)
      = stack
        (fun d => mean (∑ k, num (x1 (ix2 b k))) (mean (∑ k, num (x0 (ix2 b k))) (∑ k, num (x0 (ix2 b k)) * x5 (ix2 d k))))
        (fun d => ∑ k, num (x1 (ix2 b k)) * x6 (ix2 d k))
        (fun d => mean (∑ k, num (x2 (ix2 b k))) (∑ k, num (x2 (ix2 b k)) * x7 (ix2 d k)))
        (fun d => mean (∑ k, num (x3 (ix2 b k))) (∑ k, num (x3 (ix2 b k)) * x8 (ix2 d k)))
        (fun d => mean (∑ k, num (x4 (ix2 b k))) (∑ k, num (x4 (ix2 b k)) * x9 (ix2 d k))) r := by
  unfold stack
  pointwise [val_main_v60]
  simp only [dims_apply, movies_apply, cats_apply, persons_apply, comps_apply]

end Cert.ReferenceIdeal.RefRead

end
-- ==== Proof.Equation.lean ====
/- The equation: where every index word is 0 or 1, the kernel's result is the reference's.

   Both are five bands of the same means. They differ in the order of the factors of each term, and in the counts: the
   kernel's are numbers of sums of words, the reference's sums of numbers. -/
module

public import proofs.«01_k».proof.Proof.IdealLaunch
public import proofs.«01_k».proof.Proof.KernelRead
public import proofs.«01_k».proof.Proof.RefRead

@[expose] public section

set_option maxRecDepth 16384

noncomputable section

namespace Cert.Equation

open Cert.Mean Cert.KernelIdeal Cert.KernelIdeal.Gen Cert.KernelIdeal.KernelValue
open Idealize.ShloMosaic Idealize.ShloMosaic.TcCoe

/-- The result array, whole. -/
theorem result_eq (x0 : Vec Ideal S1024x16 .i32) (x1 : Vec Ideal S1024x10000 .i32) (x2 : Vec Ideal S1024x1000 .i32)
    (x3 : Vec Ideal S1024x10000 .i32) (x4 : Vec Ideal S1024x1000 .i32) (w0 : Vec Ideal S64x16 .f32)
    (w1 : Vec Ideal S64x10000 .f32) (w2 : Vec Ideal S64x1000 .f32) (w3 : Vec Ideal S64x10000 .f32)
    (w4 : Vec Ideal S64x1000 .f32) (h0 : ∀ i, Bit (x0 i)) (h1 : ∀ i, Bit (x1 i)) (h2 : ∀ i, Bit (x2 i))
    (h3 : ∀ i, Bit (x3 i)) (h4 : ∀ i, Bit (x4 i)) :
    transpose S1024x320 [1, 0]
        (out w0 w1 w2 w3 w4 (transpose S16x1024 [1, 0] x0 transposes_S1024x16_S16x1024_1_0)
          (transpose S10000x1024 [1, 0] x1 transposes_S1024x10000_S10000x1024_1_0)
          (transpose S1000x1024 [1, 0] x2 transposes_S1024x1000_S1000x1024_1_0)
          (transpose S10000x1024 [1, 0] x3 transposes_S1024x10000_S10000x1024_1_0)
          (transpose S1000x1024 [1, 0] x4 transposes_S1024x1000_S1000x1024_1_0))
        transposes_S320x1024_S1024x320_1_0
      = Cert.ReferenceIdeal.Read.val_main_v60 (F := Ideal) x0 x1 x2 x3 x4 w0 w1 w2 w3 w4 := by
  funext i
  obtain ⟨b, r, rfl⟩ : ∃ (b : Fin 1024) (r : Fin 320), i = ix2 b r := ⟨i 0, i 1, by
    funext a; match a with | ⟨0, _⟩ => rfl | ⟨1, _⟩ => rfl⟩
  rw [Cert.ReferenceIdeal.RefRead.result_apply]
  pointwise
  rw [KernelRead.out_apply]
  pointwise
  rw [num_sum (by decide) _ fun k => h0 (ix2 b k), num_sum (by decide) _ fun k => h1 (ix2 b k),
    num_sum (by decide) _ fun k => h2 (ix2 b k), num_sum (by decide) _ fun k => h3 (ix2 b k),
    num_sum (by decide) _ fun k => h4 (ix2 b k)]
  simp only [mul_comm (num _)]

end Cert.Equation

end
-- ==== Proof.Binary.lean ====
/- What the precondition says: every word of the five index arrays is 0 or 1. -/
module

public import proofs.«01_k».proof.Pre_binary
public import proofs.«01_k».proof.Proof.Gen.Pre_binary
public import proofs.«01_k».proof.Proof.Mean
public import Idealize.ShloMosaic.Lib.ReduceAll

@[expose] public section

set_option maxRecDepth 16384

noncomputable section

namespace Cert.Binary

open Cert.Pre_binary Cert.Mean
open Idealize.ShloMosaic

instance : Subsingleton S_.Idx := ⟨fun i j => funext fun a => a.elim0⟩

/-- A word at least 0 and at most 1 is 0 or 1. -/
theorem bit_of_range (x : BitVec 32) (h : IntOp.andi (IntOp.cmpi .sge x 0#32) (IntOp.cmpi .sle x 1#32) = 1#1) : Bit x := by
  obtain ⟨h0, h1⟩ := IntOp.andi_eq_one.1 h
  rw [IntOp.cmpi_sge, show (0#32 : BitVec 32).toInt = 0 from by decide] at h0
  rw [IntOp.cmpi_sle, show (1#32 : BitVec 32).toInt = 1 from by decide] at h1
  unfold Bit
  have := BitVec.toInt_eq_toNat_cond x
  have := x.isLt
  split at * <;> omega

variable {x0 : IVec S1024x16 32} {x1 : IVec S1024x10000 32} {x2 : IVec S1024x1000 32} {x3 : IVec S1024x10000 32}
  {x4 : IVec S1024x1000 32} {w0 : FVec Ideal S64x16 .f32} {w1 : FVec Ideal S64x10000 .f32} {w2 : FVec Ideal S64x1000 .f32}
  {w3 : FVec Ideal S64x10000 .f32} {w4 : FVec Ideal S64x1000 .f32}

/-- The precondition's function at 1 makes every word of every index array 0 or 1. -/
theorem bits (j : S_.Idx) (h : fn (F := Ideal) x0 x1 x2 x3 x4 w0 w1 w2 w3 w4 j = 1#1) :
    (∀ i, Bit (x0 i)) ∧ (∀ i, Bit (x1 i)) ∧ (∀ i, Bit (x2 i)) ∧ (∀ i, Bit (x3 i)) ∧ ∀ i, Bit (x4 i) := by
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i => bit_of_range _ (Host.reduce_andi_all _ _ _ _ j h0 i), fun i => bit_of_range _ (Host.reduce_andi_all _ _ _ _ j h1 i),
    fun i => bit_of_range _ (Host.reduce_andi_all _ _ _ _ j h2 i), fun i => bit_of_range _ (Host.reduce_andi_all _ _ _ _ j h3 i),
    fun i => bit_of_range _ (Host.reduce_andi_all _ _ _ _ j h4 i)⟩

end Cert.Binary

end
-- ==== Proof.lean ====
/- The claim: the kernel and its idealization end with their arguments unchanged and every counter at zero, and so does the
   reference; the idealized kernel's result is the reference's over the extended reals wherever the five index arrays hold
   zeros and ones. Each part is proved in a module of its own; here they are put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.WordFrame
public import proofs.«01_k».proof.Proof.Equation
public import proofs.«01_k».proof.Proof.Binary
public import proofs.«01_k».proof.Proof.Gen.Pre_binary
public import Idealize.ShloMosaic.Adequacy
public import Idealize.ShloMosaic.Init

@[expose] public section

noncomputable section

namespace Cert.Proof

open Idealize.ShloMosaic Idealize.SL.Sem

/-- The idealized kernel ends with its arguments unchanged and every counter at zero. -/
theorem ideal_frame : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Run.run_value (F := Ideal) m ρ)

/-- The reference, which has no semaphore, ends with its arguments unchanged. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's result is the reference's. -/
theorem value : Cert.algebraic_KernelIdeal_ReferenceIdeal_pre_binary (hKernelIdeal := Cert.KernelIdeal.Gen.facts)
    (hReferenceIdeal := Cert.ReferenceIdeal.Gen.facts) (hPre_binary := Cert.Pre_binary.Gen.facts) := by
  intro m g m' g' hpre hargs
  refine ⟨fun c => Cert.KernelIdeal.Run.result (F := Ideal) m c,
    (θ_run Cert.KernelIdeal.defs _ _).mono (fun _ h c => h.1 c) (Cert.KernelIdeal.Run.run_value (F := Ideal) m g),
    (θ_run Cert.ReferenceIdeal.defs _ _).mono (fun _ h c => ⟨(h c).1.trans ?_, (h c).2⟩)
      (Cert.ReferenceIdeal.Value.run (F := Ideal) m' g')⟩
  obtain ⟨a0, a1, a2, a3, a4, a5, a6, a7, a8, a9⟩ := hargs c
  obtain ⟨h0, h1, h2, h3, h4⟩ := Cert.Binary.bits (fun a => a.elim0) (congrFun (hpre c) (fun a => a.elim0))
  rw [Cert.ReferenceIdeal.Read.val_main_v60_eq, a0, a1, a2, a3, a4, a5, a6, a7, a8, a9]
  exact (Cert.Equation.result_eq _ _ _ _ _ _ _ _ _ _ h0 h1 h2 h3 h4).symm

theorem claim : Cert.Claim :=
  ⟨Cert.Kernel.Gen.facts, Cert.KernelIdeal.Gen.facts, Cert.ReferenceIdeal.Gen.facts, Cert.Pre_binary.Gen.facts,
    Cert.WordFrame.kernel_frame, ideal_frame, fun m ρ _ => ideal_frame m ρ trivial,
    reference_frame, fun m ρ _ => reference_frame m ρ trivial, trivial, value⟩

end Cert.Proof

end
